-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S64 : Shape := ⟨1, ![64]⟩
abbrev S1 : Shape := ⟨1, ![1]⟩
abbrev S1x200000x128 : Shape := ⟨3, ![1, 200000, 128]⟩
abbrev S256x64 : Shape := ⟨2, ![256, 64]⟩
abbrev S256x256 : Shape := ⟨2, ![256, 256]⟩
abbrev S256x1 : Shape := ⟨2, ![256, 1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S64 .f32) (main_arg1 : IVec S1 32) (main_arg2 : IVec S1 32) (main_arg3 : FVec F S1x200000x128 .f32) (main_arg4 : FVec F S256x64 .f32) (main_arg5 : FVec F S256x64 .f32) (main_arg6 : FVec F S256x64 .f32) (main_arg7 : FVec F S256x256 .f32) (main_arg8 : FVec F S256x256 .f32) (main_arg9 : FVec F S256x256 .f32) (main_arg10 : FVec F S256x1 .f32) (main_arg11 : FVec F S256x1 .f32) (main_arg12 : FVec F S256x1 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 200000#32
  let main_v2 : IVec S1 32 := broadcastInDim S1 ![] bcast_S_S1 main_c_0
  let main_v3 : IVec S1 1 := cmpi .slt main_arg1 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg2 main_v5
  let main_v7 : IVec S1 1 := andi main_v4 main_v6
  let main_c_2 : IVec S_ 32 := constantI S_ 32 200000#32
  let main_v8 : IVec S1 32 := broadcastInDim S1 ![] bcast_S_S1 main_c_2
  let main_v9 : IVec S1 1 := cmpi .slt main_arg2 main_v8
  let main_v10 : IVec S1 1 := andi main_v7 main_v9
  main_v10
-- ==== Kernel.lean ====
abbrev S64 : Shape := ⟨1, ![64]⟩
abbrev S1 : Shape := ⟨1, ![1]⟩
abbrev S1x200000x128 : Shape := ⟨3, ![1, 200000, 128]⟩
abbrev S256x64 : Shape := ⟨2, ![256, 64]⟩
abbrev S256x256 : Shape := ⟨2, ![256, 256]⟩
abbrev S256x1 : Shape := ⟨2, ![256, 1]⟩
abbrev S200000x128 : Shape := ⟨2, ![200000, 128]⟩
abbrev S2 : Shape := ⟨1, ![2]⟩
abbrev S_ : Shape := ⟨0, ![]⟩
abbrev S1x64 : Shape := ⟨2, ![1, 64]⟩
abbrev S1x256 : Shape := ⟨2, ![1, 256]⟩
abbrev S8x128 : Shape := ⟨2, ![8, 128]⟩
abbrev S25000x128 : Shape := ⟨2, ![25000, 128]⟩
abbrev S1x128 : Shape := ⟨2, ![1, 128]⟩

abbrev nBuf : Space → Nat
  | .hbm => 40
  | .vmem => 17
  | .smem => 1
  | _ => 0

abbrev bufTy : (tb : Table) → Fin (tcTables nBuf tb) → BufTy
  | .hbm, ⟨0, _⟩ => ⟨S64, .f32⟩
  | .hbm, ⟨1, _⟩ => ⟨S1, .i32⟩
  | .hbm, ⟨2, _⟩ => ⟨S1, .i32⟩
  | .hbm, ⟨3, _⟩ => ⟨S1x200000x128, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S200000x128, .f32⟩
  | .hbm, ⟨14, _⟩ => ⟨S_, .f32⟩
  | .hbm, ⟨15, _⟩ => ⟨S1x64, .f32⟩
  | .hbm, ⟨16, _⟩ => ⟨S_, .f32⟩
  | .hbm, ⟨17, _⟩ => ⟨S256x64, .f32⟩
  | .hbm, ⟨18, _⟩ => ⟨S_, .f32⟩
  | .hbm, ⟨19, _⟩ => ⟨S256x64, .f32⟩
  | .hbm, ⟨20, _⟩ => ⟨S_, .f32⟩
  | .hbm, ⟨21, _⟩ => ⟨S256x64, .f32⟩
  | .hbm, ⟨22, _⟩ => ⟨S_, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S_, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x64, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S200000x128, .f32⟩
  | .hbm, ⟨39, _⟩ => ⟨S1x200000x128, .f32⟩
  | .local _ .vmem, ⟨0, _⟩ => ⟨S1x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S8x128, .f32⟩
  | .local _ .vmem, ⟨11, _⟩ => ⟨S8x128, .f32⟩
  | .local _ .vmem, ⟨12, _⟩ => ⟨S25000x128, .f32⟩
  | .local _ .vmem, ⟨13, _⟩ => ⟨S25000x128, .f32⟩
  | .local _ .vmem, ⟨14, _⟩ => ⟨S25000x128, .f32⟩
  | .local _ .vmem, ⟨15, _⟩ => ⟨S25000x128, .f32⟩
  | .local _ .vmem, ⟨16, _⟩ => ⟨S1x256, .f32⟩
  | .local _ .smem, ⟨0, _⟩ => ⟨S2, .i32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev main_cst_5 : Ref sig .tc := ⟨.hbm, 26, rfl⟩
abbrev main_v8 : Ref sig .tc := ⟨.hbm, 27, rfl⟩
abbrev main_cst_6 : Ref sig .tc := ⟨.hbm, 28, rfl⟩
abbrev main_v9 : Ref sig .tc := ⟨.hbm, 29, rfl⟩
abbrev main_cst_7 : Ref sig .tc := ⟨.hbm, 30, rfl⟩
abbrev main_v10 : Ref sig .tc := ⟨.hbm, 31, rfl⟩
abbrev main_cst_8 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (v41 : BitVec 32) : Fin 2 → Nat :=
  let c8_i32 : BitVec 32 := 8#32
  let c0_i32_17 : BitVec 32 := 0#32
  let v42 : BitVec 1 := Scalar.cmpi .eq c8_i32 c0_i32_17
  let c1_i32_18 : BitVec 32 := 1#32
  let v43 : BitVec 32 := Scalar.select v42 c1_i32_18 c8_i32
  let v44 : BitVec 32 := Scalar.remsi v41 v43
  let c0_i32_20 : BitVec 32 := 0#32
  let v46 : BitVec 1 := Scalar.cmpi .slt v44 c0_i32_20
  let c0_i32_21 : BitVec 32 := 0#32
  let v47 : BitVec 1 := Scalar.cmpi .slt v43 c0_i32_21
  let v48 : BitVec 1 := Scalar.xori v46 v47
  let c0_i32_19 : BitVec 32 := 0#32
  let v45 : BitVec 1 := Scalar.cmpi .ne v44 c0_i32_19
  let v49 : BitVec 1 := Scalar.andi v48 v45
  let v50 : BitVec 32 := Scalar.addi v44 v43
  let v51 : BitVec 32 := Scalar.select v49 v50 v44
  let v63 : Index := Scalar.indexCast v51
  let c0_29 : Index := 0#32
  ![v63.toNat, 0]
def k0_cond1 (i : grid0.Coords) (v0 : BitVec 32) (v1 : BitVec 32) : BitVec 1 :=
  let arg0 : BitVec 32 := BitVec.ofNat 32 (i 0).val
  let v2 : BitVec 32 := Scalar.minsi v0 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c25000_i32 : BitVec 32 := 25000#32
  let c0_i32_1 : BitVec 32 := 0#32
  let v9 : BitVec 1 := Scalar.cmpi .sgt c25000_i32 c0_i32_1
  let v10 : BitVec 32 := Scalar.extui v9
  let c0_i32_2 : BitVec 32 := 0#32
  let v11 : BitVec 1 := Scalar.cmpi .slt c25000_i32 c0_i32_2
  let v12 : BitVec 32 := Scalar.extui v11
  let v13 : BitVec 32 := Scalar.subi v10 v12
  let v14 : BitVec 1 := Scalar.cmpi .ne v8 v13
  let v15 : BitVec 32 := Scalar.remsi v2 c25000_i32
  let c0_i32_3 : BitVec 32 := 0#32
  let v16 : BitVec 1 := Scalar.cmpi .ne v15 c0_i32_3
  let v17 : BitVec 1 := Scalar.andi v14 v16
  let v3 : BitVec 32 := Scalar.divsi v2 c25000_i32
  let c1_i32 : BitVec 32 := 1#32
  let v18 : BitVec 32 := Scalar.subi v3 c1_i32
  let v19 : BitVec 32 := Scalar.select v17 v18 v3
  let v20 : BitVec 1 := Scalar.cmpi .eq arg0 v19
  let v21 : BitVec 32 := Scalar.extui v20
  let c0_i32_4 : BitVec 32 := 0#32
  let v22 : BitVec 1 := Scalar.cmpi .ne v21 c0_i32_4
  v22

def k0_chk1 (i : grid0.Coords) (v0 : BitVec 32) (v1 : BitVec 32) (v41 : BitVec 32) : Prop :=
  (∀ (k0_h1 : k0_cond1 i v0 v1 = 1#1), ∀ a, (k0_off1 v41) a + S1x128.size a ≤ S8x128.size a)
theorem k0_off1_inb : ∀ (i : grid0.Coords) (v0 : BitVec 32) (v1 : BitVec 32) (v41 : BitVec 32) (k0_hw1 : k0_chk1 i v0 v1 v41), ∀ (k0_h1 : k0_cond1 i v0 v1 = 1#1), ∀ a, (k0_off1 v41) a + S1x128.size a ≤ S8x128.size a := fun i v0 v1 v41 k0_hw1 k0_h1 => k0_hw1 k0_h1

def k0_off2 (v52 : BitVec 32) : Fin 2 → Nat :=
  let c8_i32_23 : BitVec 32 := 8#32
  let c0_i32_24 : BitVec 32 := 0#32
  let v53 : BitVec 1 := Scalar.cmpi .eq c8_i32_23 c0_i32_24
  let c1_i32_25 : BitVec 32 := 1#32
  let v54 : BitVec 32 := Scalar.select v53 c1_i32_25 c8_i32_23
  let v55 : BitVec 32 := Scalar.remsi v52 v54
  let c0_i32_27 : BitVec 32 := 0#32
  let v57 : BitVec 1 := Scalar.cmpi .slt v55 c0_i32_27
  let c0_i32_28 : BitVec 32 := 0#32
  let v58 : BitVec 1 := Scalar.cmpi .slt v54 c0_i32_28
  let v59 : BitVec 1 := Scalar.xori v57 v58
  let c0_i32_26 : BitVec 32 := 0#32
  let v56 : BitVec 1 := Scalar.cmpi .ne v55 c0_i32_26
  let v60 : BitVec 1 := Scalar.andi v59 v56
  let v61 : BitVec 32 := Scalar.addi v55 v54
  let v62 : BitVec 32 := Scalar.select v60 v61 v55
  let v66 : Index := Scalar.indexCast v62
  let c0_30 : Index := 0#32
  ![v66.toNat, 0]

def k0_chk2 (i : grid0.Coords) (v0 : BitVec 32) (v1 : BitVec 32) (v52 : BitVec 32) : Prop :=
  (∀ (k0_h1 : k0_cond1 i v0 v1 = 1#1), ∀ a, (k0_off2 v52) a + S1x128.size a ≤ S8x128.size a)
theorem k0_off2_inb : ∀ (i : grid0.Coords) (v0 : BitVec 32) (v1 : BitVec 32) (v52 : BitVec 32) (k0_hw2 : k0_chk2 i v0 v1 v52), ∀ (k0_h1 : k0_cond1 i v0 v1 = 1#1), ∀ a, (k0_off2 v52) a + S1x128.size a ≤ S8x128.size a := fun i v0 v1 v52 k0_hw2 k0_h1 => k0_hw2 k0_h1

def k0_off3 (i : grid0.Coords) (v26 : BitVec 32) : Fin 2 → Nat :=
  let arg0 : BitVec 32 := BitVec.ofNat 32 (i 0).val
  let c25000_i32_11 : BitVec 32 := 25000#32
  let v28 : BitVec 32 := Scalar.muli arg0 c25000_i32_11
  let v41 : BitVec 32 := Scalar.subi v26 v28
  let v42 : Index := Scalar.indexCast v41
  let c0_16 : Index := 0#32
  ![v42.toNat, 0]
def k0_cond2 (i : grid0.Coords) (v26 : BitVec 32) : BitVec 1 :=
  let arg0 : BitVec 32 := BitVec.ofNat 32 (i 0).val
  let c25000_i32_11 : BitVec 32 := 25000#32
  let v28 : BitVec 32 := Scalar.muli arg0 c25000_i32_11
  let v29 : BitVec 1 := Scalar.cmpi .sge v26 v28
  let c25000_i32_12 : BitVec 32 := 25000#32
  let v30 : BitVec 32 := Scalar.addi v28 c25000_i32_12
  let v31 : BitVec 1 := Scalar.cmpi .slt v26 v30
  let v32 : BitVec 1 := Scalar.andi v29 v31
  let v33 : BitVec 32 := Scalar.extui v32
  let c0_i32_13 : BitVec 32 := 0#32
  let v34 : BitVec 1 := Scalar.cmpi .ne v33 c0_i32_13
  v34

def k0_chk3 (i : grid0.Coords) (v26 : BitVec 32) : Prop :=
  (∀ (k0_h2 : k0_cond2 i v26 = 1#1), ∀ a, (k0_off3 i v26) a + S1x128.size a ≤ S25000x128.size a)
theorem k0_off3_inb : ∀ (i : grid0.Coords) (v26 : BitVec 32) (k0_hw3 : k0_chk3 i v26), ∀ (k0_h2 : k0_cond2 i v26 = 1#1), ∀ a, (k0_off3 i v26) a + S1x128.size a ≤ S25000x128.size a := fun i v26 k0_hw3 k0_h2 => k0_hw3 k0_h2

def k0_off4 (i : grid0.Coords) (v27 : BitVec 32) : Fin 2 → Nat :=
  let arg0 : BitVec 32 := BitVec.ofNat 32 (i 0).val
  let c25000_i32_11 : BitVec 32 := 25000#32
  let v28 : BitVec 32 := Scalar.muli arg0 c25000_i32_11
  let v41 : BitVec 32 := Scalar.subi v27 v28
  let v42 : Index := Scalar.indexCast v41
  let c0_16 : Index := 0#32
  ![v42.toNat, 0]
def k0_cond3 (i : grid0.Coords) (v27 : BitVec 32) : BitVec 1 :=
  let arg0 : BitVec 32 := BitVec.ofNat 32 (i 0).val
  let c25000_i32_11 : BitVec 32 := 25000#32
  let v28 : BitVec 32 := Scalar.muli arg0 c25000_i32_11
  let v35 : BitVec 1 := Scalar.cmpi .sge v27 v28
  let c25000_i32_14 : BitVec 32 := 25000#32
  let v36 : BitVec 32 := Scalar.addi v28 c25000_i32_14
  let v37 : BitVec 1 := Scalar.cmpi .slt v27 v36
  let v38 : BitVec 1 := Scalar.andi v35 v37
  let v39 : BitVec 32 := Scalar.extui v38
  let c0_i32_15 : BitVec 32 := 0#32
  let v40 : BitVec 1 := Scalar.cmpi .ne v39 c0_i32_15
  v40

def k0_chk4 (i : grid0.Coords) (v27 : BitVec 32) : Prop :=
  (∀ (k0_h3 : k0_cond3 i v27 = 1#1), ∀ a, (k0_off4 i v27) a + S1x128.size a ≤ S25000x128.size a)
theorem k0_off4_inb : ∀ (i : grid0.Coords) (v27 : BitVec 32) (k0_hw4 : k0_chk4 i v27), ∀ (k0_h3 : k0_cond3 i v27 = 1#1), ∀ a, (k0_off4 i v27) a + S1x128.size a ≤ S25000x128.size a := fun i v27 k0_hw4 k0_h3 => k0_hw4 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_11 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S25000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S25000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S64 : Shape := ⟨1, ![64]⟩
abbrev S1 : Shape := ⟨1, ![1]⟩
abbrev S1x200000x128 : Shape := ⟨3, ![1, 200000, 128]⟩
abbrev S256x64 : Shape := ⟨2, ![256, 64]⟩
abbrev S256x256 : Shape := ⟨2, ![256, 256]⟩
abbrev S256x1 : Shape := ⟨2, ![256, 1]⟩
abbrev S200000x128 : Shape := ⟨2, ![200000, 128]⟩
abbrev S_ : Shape := ⟨0, ![]⟩
abbrev S1x128 : Shape := ⟨2, ![1, 128]⟩
abbrev S128 : Shape := ⟨1, ![128]⟩
abbrev S256 : Shape := ⟨1, ![256]⟩
abbrev S64x1 : Shape := ⟨2, ![64, 1]⟩
abbrev S2x128 : Shape := ⟨2, ![2, 128]⟩
abbrev S2 : Shape := ⟨1, ![2]⟩
abbrev S2x1 : Shape := ⟨2, ![2, 1]⟩

abbrev nBuf : Space → Nat
  | .hbm => 105
  | .vmem => 0
  | .smem => 0
  | _ => 0

abbrev bufTy : (tb : Table) → Fin (tcTables nBuf tb) → BufTy
  | .hbm, ⟨0, _⟩ => ⟨S64, .f32⟩
  | .hbm, ⟨1, _⟩ => ⟨S1, .i32⟩
  | .hbm, ⟨2, _⟩ => ⟨S1, .i32⟩
  | .hbm, ⟨3, _⟩ => ⟨S1x200000x128, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S200000x128, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x128, .f32⟩
  | .hbm, ⟨29, _⟩ => ⟨S128, .f32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x128, .f32⟩
  | .hbm, ⟨45, _⟩ => ⟨S128, .f32⟩
  | .hbm, ⟨46, _⟩ => ⟨S256, .f32⟩
  | .hbm, ⟨47, _⟩ => ⟨S256x1, .f32⟩
  | .hbm, ⟨48, _⟩ => ⟨S64x1, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x1, .f32⟩
  | .hbm, ⟨53, _⟩ => ⟨S256x1, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x1, .f32⟩
  | .hbm, ⟨65, _⟩ => ⟨S256x1, .f32⟩
  | .hbm, ⟨66, _⟩ => ⟨S256x1, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S_, .f32⟩
  | .hbm, ⟨71, _⟩ => ⟨S256x1, .f32⟩
  | .hbm, ⟨72, _⟩ => ⟨S256x1, .f32⟩
  | .hbm, ⟨73, _⟩ => ⟨S256x1, .f32⟩
  | .hbm, ⟨74, _⟩ => ⟨S256x1, .f32⟩
  | .hbm, ⟨75, _⟩ => ⟨S256x1, .f32⟩
  | .hbm, ⟨76, _⟩ => ⟨S256x1, .f32⟩
  | .hbm, ⟨77, _⟩ => ⟨S256x1, .f32⟩
  | .hbm, ⟨78, _⟩ => ⟨S256x1, .f32⟩
  | .hbm, ⟨79, _⟩ => ⟨S256x1, .f32⟩
  | .hbm, ⟨80, _⟩ => ⟨S_, .f32⟩
  | .hbm, ⟨81, _⟩ => ⟨S256x1, .f32⟩
  | .hbm, ⟨82, _⟩ => ⟨S256x1, .f32⟩
  | .hbm, ⟨83, _⟩ => ⟨S256x1, .f32⟩
  | .hbm, ⟨84, _⟩ => ⟨S256x1, .f32⟩
  | .hbm, ⟨85, _⟩ => ⟨S256x1, .f32⟩
  | .hbm, ⟨86, _⟩ => ⟨S2x128, .f32⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S2, .i32⟩
  | .hbm, ⟨92, _⟩ => ⟨S_, .f32⟩
  | .hbm, ⟨93, _⟩ => ⟨S200000x128, .f32⟩
  | .hbm, ⟨94, _⟩ => ⟨S_, .i32⟩
  | .hbm, ⟨95, _⟩ => ⟨S2, .i32⟩
  | .hbm, ⟨96, _⟩ => ⟨S2, .i1⟩
  | .hbm, ⟨97, _⟩ => ⟨S_, .i32⟩
  | .hbm, ⟨98, _⟩ => ⟨S2, .i32⟩
  | .hbm, ⟨99, _⟩ => ⟨S2, .i32⟩
  | .hbm, ⟨100, _⟩ => ⟨S2, .i32⟩
  | .hbm, ⟨101, _⟩ => ⟨S2x1, .i32⟩
  | .hbm, ⟨102, _⟩ => ⟨S200000x128, .f32⟩
  | .hbm, ⟨103, _⟩ => ⟨S200000x128, .f32⟩
  | .hbm, ⟨104, _⟩ => ⟨S1x200000x128, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_c_2 : Ref sig .tc := ⟨.hbm, 21, rfl⟩
abbrev main_v5 : Ref sig .tc := ⟨.hbm, 22, rfl⟩
abbrev main_c_3 : Ref sig .tc := ⟨.hbm, 23, rfl⟩
abbrev main_c_4 : Ref sig .tc := ⟨.hbm, 24, rfl⟩
abbrev main_v6 : Ref sig .tc := ⟨.hbm, 25, rfl⟩
abbrev main_c_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_6 : Ref sig .tc := ⟨.hbm, 31, rfl⟩
abbrev main_v11 : Ref sig .tc := ⟨.hbm, 32, rfl⟩
abbrev main_c_7 : Ref sig .tc := ⟨.hbm, 33, rfl⟩
abbrev main_v12 : Ref sig .tc := ⟨.hbm, 34, rfl⟩
abbrev main_v13 : Ref sig .tc := ⟨.hbm, 35, rfl⟩
abbrev main_c_8 : Ref sig .tc := ⟨.hbm, 36, rfl⟩
abbrev main_c_9 : Ref sig .tc := ⟨.hbm, 37, rfl⟩
abbrev main_v14 : Ref sig .tc := ⟨.hbm, 38, rfl⟩
abbrev main_c_10 : Ref sig .tc := ⟨.hbm, 39, rfl⟩
abbrev main_c_11 : Ref sig .tc := ⟨.hbm, 40, rfl⟩
abbrev main_v15 : Ref sig .tc := ⟨.hbm, 41, rfl⟩
abbrev main_c_12 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_cst_13 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_14 : Ref sig .tc := ⟨.hbm, 67, rfl⟩
abbrev main_v38 : Ref sig .tc := ⟨.hbm, 68, rfl⟩
abbrev main_v39 : Ref sig .tc := ⟨.hbm, 69, rfl⟩
abbrev main_cst_15 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_c_18 : Ref sig .tc := ⟨.hbm, 94, rfl⟩
abbrev main_v61 : Ref sig .tc := ⟨.hbm, 95, rfl⟩
abbrev main_v62 : Ref sig .tc := ⟨.hbm, 96, rfl⟩
abbrev main_c_19 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.Range.lean ====
/- The precondition read at its one entry: both row numbers are rows of the table. -/
module

public import proofs.«01_k».proof.Proof.Gen.Pre_rows_in_table
public import Idealize.ShloMosaic.Lib.WordCmp
public import Idealize.ShloMosaic.Lib.Pointwise

@[expose] public section

noncomputable section

namespace Cert.Gru

open Idealize.ShloMosaic Cert.Pre_rows_in_table

/-- The precondition holds only where both row numbers are below the table's 200000 rows. -/
theorem range_of_pre {F : FTy → Type} [FloatOps F] (x0 : FVec F S64 .f32) (x1 x2 : IVec S1 32) (x3 : FVec F S1x200000x128 .f32)
    (x4 x5 x6 : FVec F S256x64 .f32) (x7 x8 x9 : FVec F S256x256 .f32) (x10 x11 x12 : FVec F S256x1 .f32)
    (h : fn (F := F) x0 x1 x2 x3 x4 x5 x6 x7 x8 x9 x10 x11 x12 = fun _ => 1#1) :
    (x1 (ix1 0)).toNat < 200000 ∧ (x2 (ix1 0)).toNat < 200000 := by
  have e := congrFun h (ix1 0)
  simp only [fn, andi, cmpi, broadcastInDim, constantI, IntOp.cmpi, WordCmp.andi_ofBool, WordCmp.ofBool_eq_one_iff,
    Bool.and_eq_true] at e
  obtain ⟨⟨⟨h1, h2⟩, h3⟩, h4⟩ := e
  simp only [BitVec.sle, BitVec.slt, decide_eq_true_eq, BitVec.toInt, BitVec.toNat_ofNat] at h1 h2 h3 h4
  omega

end Cert.Gru

end
-- ==== Proof.Words.lean ====
/- Arithmetic of 32-bit words that name natural numbers far below `2^31`: the two floor operations as the kernel's
   integer code spells them (signed division and remainder with a correction for a negative operand), which on
   such words are the natural quotient and remainder. -/
module

public import Idealize.ShloMosaic.Lib.WordCmp
public import Idealize.ShloMosaic.Lib.WordArith
public import Idealize.ShloMosaic.Lib.Routing.Words
public import Idealize.ShloMosaic.Lib.PlanTiles.Rows

@[expose] public section

namespace Cert.Gru

open Idealize.ShloMosaic Idealize.ShloMosaic.WordCmp

/-- The sign of a word: one, zero or minus one. -/
def sgn (w : BitVec 32) : BitVec 32 :=
  Scalar.subi (Scalar.extui (Scalar.cmpi .sgt w 0#32)) (Scalar.extui (Scalar.cmpi .slt w 0#32))

/-- The floor quotient of two words: the signed quotient, less one where the signs differ and the remainder is
    not zero. -/
def floorQuot (w k : BitVec 32) : BitVec 32 :=
  Scalar.select (Scalar.andi (Scalar.cmpi .ne (sgn w) (sgn k)) (Scalar.cmpi .ne (Scalar.remsi w k) 0#32))
    (Scalar.subi (Scalar.divsi w k) 1#32) (Scalar.divsi w k)

/-- The floor remainder of two words: the signed remainder, plus the divisor where the signs differ and the
    remainder is not zero. The divisor zero is taken as one. -/
def floorRem (w k : BitVec 32) : BitVec 32 :=
  let d := Scalar.select (Scalar.cmpi .eq k 0#32) 1#32 k
  Scalar.select
    (Scalar.andi (Scalar.xori (Scalar.cmpi .slt (Scalar.remsi w d) 0#32) (Scalar.cmpi .slt d 0#32))
      (Scalar.cmpi .ne (Scalar.remsi w d) 0#32))
    (Scalar.addi (Scalar.remsi w d) d) (Scalar.remsi w d)

/-- Whether the word `w` lies in the block of 25000 numbers that starts at 25000 times `i`. -/
def inBlock (i : ℕ) (w : BitVec 32) : BitVec 1 :=
  Scalar.cmpi .ne
    (Scalar.extui (Scalar.andi (Scalar.cmpi .sge w (Scalar.muli (BitVec.ofNat 32 i) 25000#32))
      (Scalar.cmpi .slt w (Scalar.addi (Scalar.muli (BitVec.ofNat 32 i) 25000#32) 25000#32)))) 0#32

/-- The signed quotient of two small words is the word of the natural quotient. -/
theorem sdiv_word {a k : ℕ} (ha : a < 2 ^ 31) (h0 : 0 < k) (hk : k < 2 ^ 31) :
    Scalar.divsi (BitVec.ofNat 32 a) (BitVec.ofNat 32 k) = BitVec.ofNat 32 (a / k) :=
  Routing.divsi_word .scalar ha h0 hk

/-- The signed remainder of two small words is the word of the natural remainder. -/
theorem srem_word {a k : ℕ} (ha : a < 2 ^ 31) (h0 : 0 < k) (hk : k < 2 ^ 31) :
    Scalar.remsi (BitVec.ofNat 32 a) (BitVec.ofNat 32 k) = BitVec.ofNat 32 (a % k) :=
  Routing.remsi_word .scalar ha h0 hk

/-- A small word that is not zero has the sign one. -/
theorem sgn_pos {a : ℕ} (h0 : 0 < a) (ha : a < 2 ^ 31) : sgn (BitVec.ofNat 32 a) = 1#32 := by
  have e1 : Scalar.cmpi .sgt (BitVec.ofNat 32 a) 0#32 = 1#1 := by
    rw [Scalar.cmpi, cmpi_sgt_ofNat (by omega) (by omega), decide_eq_true h0]; rfl
  have e2 : Scalar.cmpi .slt (BitVec.ofNat 32 a) 0#32 = 0#1 := by
    rw [Scalar.cmpi, cmpi_slt_ofNat (by omega) (by omega), decide_eq_false (by omega)]; rfl
  rw [sgn, e1, e2]; rfl

/-- A selection whose bit is zero takes the second value. -/
theorem select_zero {α : Type} {c : BitVec 1} (a b : α) (h : c = 0#1) : Scalar.select c a b = b := by
  subst h; rfl

/-- A bit and zero is zero. -/
theorem andi_zero_right (x : BitVec 1) : Scalar.andi x 0#1 = 0#1 := by revert x; decide

/-- A bit and zero is zero. -/
theorem andi_zero_left (x : BitVec 1) : Scalar.andi 0#1 x = 0#1 := by revert x; decide

/-- On small words the floor quotient is the natural quotient. -/
theorem floorQuot_word {a k : ℕ} (ha : a < 2 ^ 31) (h0 : 0 < k) (hk : k < 2 ^ 31) :
    floorQuot (BitVec.ofNat 32 a) (BitVec.ofNat 32 k) = BitVec.ofNat 32 (a / k) := by
  unfold floorQuot
  rw [sdiv_word ha h0 hk, srem_word ha h0 hk]
  refine select_zero _ _ ?_
  rcases Nat.eq_zero_or_pos a with h | h
  · subst h
    rw [Nat.zero_mod, show Scalar.cmpi .ne (BitVec.ofNat 32 0) 0#32 = 0#1 from by decide, andi_zero_right]
  · rw [sgn_pos h ha, sgn_pos h0 hk, show Scalar.cmpi .ne 1#32 1#32 = 0#1 from by decide, andi_zero_left]

/-- On small words the floor remainder is the natural remainder. -/
theorem floorRem_word {a k : ℕ} (ha : a < 2 ^ 31) (h0 : 0 < k) (hk : k < 2 ^ 31) :
    floorRem (BitVec.ofNat 32 a) (BitVec.ofNat 32 k) = BitVec.ofNat 32 (a % k) := by
  have ed : Scalar.select (Scalar.cmpi .eq (BitVec.ofNat 32 k) 0#32) 1#32 (BitVec.ofNat 32 k) = BitVec.ofNat 32 k := by
    refine select_zero _ _ ?_
    rw [Scalar.cmpi, cmpi_eq_ofNat (by omega) (by omega), decide_eq_false (by omega)]; rfl
  have hm : a % k < k := Nat.mod_lt _ h0
  unfold floorRem
  simp only [ed]
  rw [srem_word ha h0 hk]
  refine select_zero _ _ ?_
  have e1 : Scalar.cmpi .slt (BitVec.ofNat 32 (a % k)) 0#32 = 0#1 := by
    rw [Scalar.cmpi, cmpi_slt_ofNat (by omega) (by omega), decide_eq_false (by omega)]; rfl
  have e2 : Scalar.cmpi .slt (BitVec.ofNat 32 k) 0#32 = 0#1 := by
    rw [Scalar.cmpi, cmpi_slt_ofNat (by omega) (by omega), decide_eq_false (by omega)]; rfl
  rw [e1, e2, show Scalar.xori 0#1 0#1 = 0#1 from by decide, andi_zero_left]

/-- Of two small words the signed minimum is the word of the smaller number. -/
theorem smin_word {a b : ℕ} (ha : a < 2 ^ 31) (hb : b < 2 ^ 31) :
    Scalar.minsi (BitVec.ofNat 32 a) (BitVec.ofNat 32 b) = BitVec.ofNat 32 (min a b) := by
  rw [Nat.min_comm]; exact PlanTiles.minsi_word ha hb

/-- The start of block `i` as a word. -/
theorem start_word (i : ℕ) : Scalar.muli (BitVec.ofNat 32 i) 25000#32 = BitVec.ofNat 32 (i * 25000) :=
  (BitVec.ofNat_mul i 25000).symm

/-- The end of block `i` as a word. -/
theorem stop_word (i : ℕ) :
    Scalar.addi (Scalar.muli (BitVec.ofNat 32 i) 25000#32) 25000#32 = BitVec.ofNat 32 (i * 25000 + 25000) := by
  rw [start_word]; exact (BitVec.ofNat_add (i * 25000) 25000).symm

/-- A bit widened and compared with zero is the bit. -/
theorem ne_extui (x : BitVec 1) : Scalar.cmpi .ne (Scalar.extui x) 0#32 = x := by revert x; decide

/-- The block test on a small word decides membership in the block. -/
theorem inBlock_word {i a : ℕ} (hi : i < 8) (ha : a < 200000) :
    inBlock i (BitVec.ofNat 32 a) = 1#1 ↔ i * 25000 ≤ a ∧ a < i * 25000 + 25000 := by
  unfold inBlock
  rw [ne_extui, stop_word, start_word, Scalar.cmpi, Scalar.cmpi, cmpi_sge_ofNat (by omega) (by omega),
    cmpi_slt_ofNat (by omega) (by omega), Scalar.andi, andi_ofBool, ofBool_eq_one_iff, Bool.and_eq_true,
    decide_eq_true_eq, decide_eq_true_eq]

/-- The distance of a small word from the start of a block before it. -/
theorem dist_word {i a : ℕ} (ha : a < 200000) (h : i * 25000 ≤ a) :
    (Scalar.subi (BitVec.ofNat 32 a) (Scalar.muli (BitVec.ofNat 32 i) 25000#32)).toNat = a - i * 25000 := by
  rw [start_word]
  show (BitVec.ofNat 32 a - BitVec.ofNat 32 (i * 25000)).toNat = _
  rw [BitVec.toNat_sub, BitVec.toNat_ofNat, BitVec.toNat_ofNat]
  omega

/-- Two small words are equal exactly where their numbers are. -/
theorem eq_word {a b : ℕ} (ha : a < 2 ^ 31) (hb : b < 2 ^ 31) :
    Scalar.cmpi .ne (Scalar.extui (Scalar.cmpi .eq (BitVec.ofNat 32 a) (BitVec.ofNat 32 b))) 0#32 = 1#1 ↔ a = b := by
  rw [ne_extui, Scalar.cmpi, cmpi_eq_ofNat (by omega) (by omega), ofBool_decide_eq_one_iff]

end Cert.Gru
-- ==== Proof.KernelIdeal.Conds.lean ====
/- The kernel's branch conditions, row offsets and block choices, each in closed form for row numbers below 200000. -/
module

public import proofs.«01_k».proof.Proof.Gen.KernelIdeal.Launch
public import proofs.«01_k».proof.Proof.Words

@[expose] public section

set_option maxRecDepth 16384

namespace Cert.KernelIdeal.Gru

open Idealize.ShloMosaic Idealize.ShloMosaic.TcCoe Cert.KernelIdeal Cert.KernelIdeal.Gen Cert.Gru

variable {F : FTy → Type} [FloatOps F]

/-- A row number of the table: a word below 200000. -/
abbrev Row (w : BitVec 32) : Prop := w.toNat < 200000

/-- A word is the word of its number. -/
theorem ofNat_toNat (w : BitVec 32) : BitVec.ofNat 32 w.toNat = w := by
  rw [BitVec.ofNat_toNat, BitVec.setWidth_eq]

/-- The first row is read at its number modulo 8 in its block of eight rows. -/
theorem off1_eq {w : BitVec 32} (h : Row w) : k0_off1 w = ![w.toNat % 8, 0] := by
  show ![(floorRem w 8#32).toNat, 0] = _
  rw [← ofNat_toNat w, floorRem_word (by omega) (by decide) (by decide), ofNat_toNat,
    WordCmp.toNat_ofNat_of_lt (by omega)]

/-- The second row is read at its number modulo 8 in its block of eight rows. -/
theorem off2_eq {w : BitVec 32} (h : Row w) : k0_off2 w = ![w.toNat % 8, 0] := off1_eq h

/-- The gates are computed at the block that holds the smaller of the two row numbers. -/
theorem cond1_iff (i : grid0.Coords) {v w : BitVec 32} (hv : Row v) (hw : Row w) :
    k0_cond1 i v w = 1#1 ↔ (i 0).val = min v.toNat w.toNat / 25000 := by
  have hi : (i 0).val < 8 := (i 0).isLt
  show Scalar.cmpi .ne (Scalar.extui (Scalar.cmpi .eq (BitVec.ofNat 32 (i 0).val)
    (floorQuot (Scalar.minsi v w) 25000#32))) 0#32 = 1#1 ↔ _
  rw [← ofNat_toNat v, ← ofNat_toNat w, smin_word (by omega) (by omega),
    floorQuot_word (by omega) (by decide) (by decide), eq_word (by omega) (by omega), ofNat_toNat, ofNat_toNat]

/-- The first row is updated at the block that holds it. -/
theorem cond2_iff (i : grid0.Coords) {w : BitVec 32} (h : Row w) :
    k0_cond2 i w = 1#1 ↔ (i 0).val * 25000 ≤ w.toNat ∧ w.toNat < (i 0).val * 25000 + 25000 := by
  show inBlock (i 0).val w = 1#1 ↔ _
  rw [← ofNat_toNat w, inBlock_word (i 0).isLt h, ofNat_toNat]

/-- The second row is updated at the block that holds it. -/
theorem cond3_iff (i : grid0.Coords) {w : BitVec 32} (h : Row w) :
    k0_cond3 i w = 1#1 ↔ (i 0).val * 25000 ≤ w.toNat ∧ w.toNat < (i 0).val * 25000 + 25000 := cond2_iff i h

/-- The first row's place in the block that holds it. -/
theorem off3_eq (i : grid0.Coords) {w : BitVec 32} (h : Row w) (hi : (i 0).val * 25000 ≤ w.toNat) :
    k0_off3 i w = ![w.toNat - (i 0).val * 25000, 0] := by
  show ![(Scalar.subi w (Scalar.muli (BitVec.ofNat 32 (i 0).val) 25000#32)).toNat, 0] = _
  rw [← ofNat_toNat w, dist_word h hi, ofNat_toNat]

/-- The second row's place in the block that holds it. -/
theorem off4_eq (i : grid0.Coords) {w : BitVec 32} (h : Row w) (hi : (i 0).val * 25000 ≤ w.toNat) :
    k0_off4 i w = ![w.toNat - (i 0).val * 25000, 0] := off3_eq i h hi

/-- The first row lies in its block of eight rows. -/
theorem chk1 (i : grid0.Coords) (u v : BitVec 32) {w : BitVec 32} (h : Row w) : k0_chk1 i u v w := by
  intro _ a
  rw [off1_eq h]
  match a with
  | ⟨0, _⟩ => show w.toNat % 8 + 1 ≤ 8; omega
  | ⟨1, _⟩ => exact Nat.le_refl 128

/-- The second row lies in its block of eight rows. -/
theorem chk2 (i : grid0.Coords) (u v : BitVec 32) {w : BitVec 32} (h : Row w) : k0_chk2 i u v w := chk1 i u v h

/-- The first row lies in the block that is found to hold it. -/
theorem chk3 (i : grid0.Coords) {w : BitVec 32} (h : Row w) : k0_chk3 i w := by
  intro hc a
  have hb := (cond2_iff i h).mp hc
  rw [off3_eq i h hb.1]
  match a with
  | ⟨0, _⟩ => show w.toNat - (i 0).val * 25000 + 1 ≤ 25000; omega
  | ⟨1, _⟩ => exact Nat.le_refl 128

/-- The second row lies in the block that is found to hold it. -/
theorem chk4 (i : grid0.Coords) {w : BitVec 32} (h : Row w) : k0_chk4 i w := chk3 i h

/-- The table's first word. -/
def word0 (pf : pre0.Contents (Elt F)) : BitVec 32 := pf.at 0 (Rect.unit (s := S2) ![0] S1.size inb_S2_S1_0) numel1_S1

/-- The table's second word. -/
def word1 (pf : pre0.Contents (Elt F)) : BitVec 32 := pf.at 0 (Rect.unit (s := S2) ![1] S1.size inb_S2_S1_1) numel1_S1

/-- The block of eight rows staged for the first row is the one that holds it. -/
theorem transform10_eq (pf : pre0.Contents (Elt F)) (i : grid0.Coords) (h : Row (word0 pf)) :
    cc0_transform_10 inb_S2_S1_0 numel1_S1 pf i = ![(word0 pf).toNat / 8, 0] := by
  show ![(floorQuot (word0 pf) 8#32).toNat, 0] = _
  rw [← ofNat_toNat (word0 pf), floorQuot_word (by omega) (by decide) (by decide), ofNat_toNat,
    WordCmp.toNat_ofNat_of_lt (by omega)]

/-- The block of eight rows staged for the second row is the one that holds it. -/
theorem transform11_eq (pf : pre0.Contents (Elt F)) (i : grid0.Coords) (h : Row (word1 pf)) :
    cc0_transform_11 inb_S2_S1_1 numel1_S1 pf i = ![(word1 pf).toNat / 8, 0] := by
  show ![(floorQuot (word1 pf) 8#32).toNat, 0] = _
  rw [← ofNat_toNat (word1 pf), floorQuot_word (by omega) (by decide) (by decide), ofNat_toNat,
    WordCmp.toNat_ofNat_of_lt (by omega)]

/-- A table of two row numbers is one the launch accepts: both blocks of eight rows lie in the table of rows. -/
theorem ok_of_rows (pf : pre0.Contents (Elt F)) (h0 : Row (word0 pf)) (h1 : Row (word1 pf)) : ok0 pf := by
  refine ⟨fun i => ⟨fun a => ?_, .inl rfl⟩, fun i => ⟨fun a => ?_, .inl rfl⟩⟩
  · rw [transform10_eq pf i h0]
    match a with
    | ⟨0, _⟩ => show ((word0 pf).toNat / 8 + 1) * 8 ≤ 200000; omega
    | ⟨1, _⟩ => show (0 + 1) * 128 ≤ 128; omega
  · rw [transform11_eq pf i h1]
    match a with
    | ⟨0, _⟩ => show ((word1 pf).toNat / 8 + 1) * 8 ≤ 200000; omega
    | ⟨1, _⟩ => show (0 + 1) * 128 ≤ 128; omega

end Cert.KernelIdeal.Gru
-- ==== Proof.KernelIdeal.Blocks.lean ====
/- What one run of the kernel's body stores, as operations on whole blocks: the copied block, its increased rows, and
   the scratch row of gates. -/
module

public import proofs.«01_k».proof.Proof.KernelIdeal.Conds
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WritesUnit
public import Idealize.ShloMosaic.Lib.VecWindow

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Gru

variable {F : FTy → Type} [FloatOps F]

local notation "𝕄" => MT nD τ sig Unit (Elt F) ℕ (UR sig nD τ) ℕ

/-- The index in a block of eight rows of a one-row index moved to row `r` (modulo 8). -/
def idx8 (r : ℕ) (y : S1x128.Idx) : S8x128.Idx := fun a => match a with
  | ⟨0, _⟩ => ⟨r % 8, Nat.mod_lt _ (by decide)⟩
  | ⟨1, _⟩ => ⟨(y 1).val, (y 1).isLt⟩

/-- Row `r` (modulo 8) of a block of eight rows. -/
def row8 (x : Vec F S8x128 .f32) (r : ℕ) : Vec F S1x128 .f32 := fun y => x (idx8 r y)

/-- The column of an index of a block of rows, as an index of one row. -/
def col (y : S25000x128.Idx) : S1x128.Idx := fun a => match a with
  | ⟨0, _⟩ => ⟨0, Nat.one_pos⟩
  | ⟨1, _⟩ => ⟨(y 1).val, (y 1).isLt⟩

/-- The left half of the scratch row. -/
def left (d : Vec F S1x256 .f32) : Vec F S1x128 .f32 := fun y => d (fun a => match a with
  | ⟨0, _⟩ => ⟨0, Nat.one_pos⟩
  | ⟨1, _⟩ => ⟨(y 1).val, Nat.lt_of_lt_of_le (y 1).isLt (show 128 ≤ 256 by decide)⟩)

/-- The right half of the scratch row. -/
def right (d : Vec F S1x256 .f32) : Vec F S1x128 .f32 := fun y => d (fun a => match a with
  | ⟨0, _⟩ => ⟨0, Nat.one_pos⟩
  | ⟨1, _⟩ => ⟨128 + (y 1).val, Nat.add_lt_add_left (y 1).isLt 128⟩)

/-- The change of the two rows side by side: the gates of the update, of the staged inputs. -/
def gates (x0 : Vec F S1x64 .f32) (x1 x2 x3 : Vec F S256x64 .f32) (x4 x5 x6 : Vec F S256x256 .f32)
    (x7 x8 x9 : Vec F S1x256 .f32) (x10 x11 : Vec F S8x128 .f32) (b p : ℕ) : Vec F S1x256 .f32 :=
  k0_pay5 (k0_pay2 (row8 x10 b) (row8 x11 p)) (k0_pay3 x0) (k0_pay4 x0 x1) x2 (constant S1x256 .f32 0x00000000#32)
    x3 x4 x7 x5 x8 x6 x9

/-- What the scratch row holds after the body has run at block `i`: the gates if the block is the one that holds
    the smaller of the two row numbers, what it held before otherwise. -/
def newRow (i b p : ℕ) (g xs : Vec F S1x256 .f32) : Vec F S1x256 .f32 := if i = min b p / 25000 then g else xs

/-- What the output's block holds after the body has run at block `i`: the block of the table of rows, the row `b`
    increased by the scratch row's left half and then the row `p` by its right half. -/
def newOut (i b p : ℕ) (x : Vec F S25000x128 .f32) (d : Vec F S1x256 .f32) : Vec F S25000x128 .f32 := fun y =>
  let o := if i * 25000 + (y 0).val = b then FloatOps.addf (x y) (left d (col y)) else x y
  if i * 25000 + (y 0).val = p then FloatOps.addf o (right d (col y)) else o

/-- One row of a block increased. -/
def addRow (r : ℕ) (o : Vec F S25000x128 .f32) (u : Vec F S1x128 .f32) : Vec F S25000x128 .f32 := fun y =>
  if (y 0).val = r then FloatOps.addf (o y) (u (col y)) else o y

/-- A block that holds neither row is copied. -/
theorem newOut_ff {i b p : ℕ} (x : Vec F S25000x128 .f32) (d : Vec F S1x256 .f32)
    (hb : ¬ (i * 25000 ≤ b ∧ b < i * 25000 + 25000)) (hp : ¬ (i * 25000 ≤ p ∧ p < i * 25000 + 25000)) :
    newOut i b p x d = x := by
  funext y
  have hy : (y 0).val < 25000 := (y 0).isLt
  have e1 : ¬ i * 25000 + (y 0).val = b := by omega
  have e2 : ¬ i * 25000 + (y 0).val = p := by omega
  simp only [newOut, if_neg e1, if_neg e2]

/-- A block that holds the first row only has that row increased. -/
theorem newOut_tf {i b p : ℕ} (x : Vec F S25000x128 .f32) (d : Vec F S1x256 .f32)
    (hb : i * 25000 ≤ b ∧ b < i * 25000 + 25000) (hp : ¬ (i * 25000 ≤ p ∧ p < i * 25000 + 25000)) :
    newOut i b p x d = addRow (b - i * 25000) x (left d) := by
  funext y
  have hy : (y 0).val < 25000 := (y 0).isLt
  have e1 : (i * 25000 + (y 0).val = b) = ((y 0).val = b - i * 25000) := propext ⟨fun h => by omega, fun h => by omega⟩
  have e2 : ¬ i * 25000 + (y 0).val = p := by omega
  simp only [newOut, addRow, e1, if_neg e2]

/-- A block that holds the second row only has that row increased. -/
theorem newOut_ft {i b p : ℕ} (x : Vec F S25000x128 .f32) (d : Vec F S1x256 .f32)
    (hb : ¬ (i * 25000 ≤ b ∧ b < i * 25000 + 25000)) (hp : i * 25000 ≤ p ∧ p < i * 25000 + 25000) :
    newOut i b p x d = addRow (p - i * 25000) x (right d) := by
  funext y
  have hy : (y 0).val < 25000 := (y 0).isLt
  have e1 : ¬ i * 25000 + (y 0).val = b := by omega
  have e2 : (i * 25000 + (y 0).val = p) = ((y 0).val = p - i * 25000) := propext ⟨fun h => by omega, fun h => by omega⟩
  simp only [newOut, addRow, if_neg e1, e2]

/-- A block that holds both rows has the first increased and then the second. -/
theorem newOut_tt {i b p : ℕ} (x : Vec F S25000x128 .f32) (d : Vec F S1x256 .f32)
    (hb : i * 25000 ≤ b ∧ b < i * 25000 + 25000) (hp : i * 25000 ≤ p ∧ p < i * 25000 + 25000) :
    newOut i b p x d = addRow (p - i * 25000) (addRow (b - i * 25000) x (left d)) (right d) := by
  funext y
  have hy : (y 0).val < 25000 := (y 0).isLt
  have e1 : (i * 25000 + (y 0).val = b) = ((y 0).val = b - i * 25000) := propext ⟨fun h => by omega, fun h => by omega⟩
  have e2 : (i * 25000 + (y 0).val = p) = ((y 0).val = p - i * 25000) := propext ⟨fun h => by omega, fun h => by omega⟩
  simp only [newOut, addRow, e1, e2]

/-- The row sum stored, at a column. -/
theorem pay7_apply (v u : Vec F S1x128 .f32) (z : S1x128.Idx) : k0_pay7 v u z = FloatOps.addf (v z) (u z) := by
  unfold k0_pay7
  show FloatOps.addf (shapeCast S1x128 v shapeCasts_S1x128_S1x128 z) (u z) = _
  rw [shapeCast_self]

/-- The block stored is the block loaded. -/
theorem pay6_eq (v : Vec F S25000x128 .f32) : k0_pay6 v = v := shapeCast_self v _

/-- Storing a row's sum over what earlier stores left increases that row. -/
theorem read_addRow (v : View sig .tc .vmem S25000x128 .f32) (f : v.ty.Contents (Elt F)) {off : Fin 2 → ℕ} {r : ℕ}
    (inb inb' : ∀ a, off a + S1x128.size a ≤ S25000x128.size a) (L : List (View.Piece (Elt F) S25000x128 .f32))
    (u : Vec F S1x128 .f32) (hoff : off = ![r, 0]) {o : Vec F S25000x128 .f32} {u' : Vec F S1x128 .f32}
    (ho : v.read (Elt F) (v.writes (Elt F) f L) = o) (hu : u = u') :
    v.read (Elt F) (v.writes (Elt F) f (⟨Rect.unit (s := S25000x128) off S1x128.size inb,
      k0_pay7 (v.readAt (Elt F) (Rect.unit (s := S25000x128) off S1x128.size inb').toLoadRect (v.writes (Elt F) f L)) u⟩ :: L))
      = addRow r o u' := by
  subst hoff ho hu
  funext y
  by_cases h : (y 0).val = r
  · have hz := View.read_writes_cons_rows_of_mem v f inb
      (k0_pay7 (v.readAt (Elt F) (Rect.unit (s := S25000x128) ![r, 0] S1x128.size inb').toLoadRect (v.writes (Elt F) f L)) u)
      L y (col y) rfl (show (y 0).val = r + 0 from h) rfl
    refine hz.trans ?_
    rw [pay7_apply, View.readAt_apply]
    have ey : (Rect.unit (s := S25000x128) ![r, 0] S1x128.size inb').toLoadRect.idx (col y) = y :=
      funext fun a => Fin.ext (match a with
        | ⟨0, _⟩ => show r + 1 * 0 = (y 0).val from by omega
        | ⟨1, _⟩ => show 0 + 1 * (y 1).val = (y 1).val from by omega)
    rw [ey, addRow, if_pos h]
  · refine (View.read_writes_cons_rows_of_not_mem v f inb _ L y rfl (W := 1) rfl (by omega)).trans ?_
    rw [addRow, if_neg h]

/-- The whole block stored is what the next load reads. -/
theorem read_block {arg14 : Memref sig .tc .vmem S25000x128 .f32} (harg14 : arg14.IsWhole) (v : View sig .tc .vmem S25000x128 .f32)
    (f : v.ty.Contents (Elt F)) (x : Vec F S25000x128 .f32)
    (inb inb' : ∀ a, (![0, 0] : Fin 2 → ℕ) a + S25000x128.size a ≤ S25000x128.size a) :
    v.read (Elt F) (v.writes (Elt F) f [⟨Rect.unit (s := S25000x128) ![0, 0] S25000x128.size inb,
      k0_pay6 (arg14.view.readAt (Elt F) (Rect.unit (s := S25000x128) ![0, 0] S25000x128.size inb').toLoadRect (harg14.unread x))⟩]) = x := by
  rw [View.read_writes_full, pay6_eq, View.readAt_full, harg14.read_unread]

/-- A load of a whole buffer reads what it holds. -/
theorem load_whole {s : Shape} {arg : Memref sig .tc .vmem s .f32} (harg : arg.IsWhole) (x : Vec F s .f32) {off : Fin s.rank → ℕ}
    (inb : ∀ a, off a + s.size a ≤ s.size a) :
    arg.view.readAt (Elt F) (Rect.unit off s.size inb).toLoadRect (harg.unread x) = x := by
  rw [View.readAt_full, harg.read_unread]

/-- A load of one row of a block of eight. -/
theorem load_row {arg : Memref sig .tc .vmem S8x128 .f32} (harg : arg.IsWhole) (x : Vec F S8x128 .f32) {off : Fin 2 → ℕ} {r : ℕ}
    (hoff : off = ![r % 8, 0]) (inb : ∀ a, off a + S1x128.size a ≤ S8x128.size a) :
    arg.view.readAt (Elt F) (Rect.unit (s := S8x128) off S1x128.size inb).toLoadRect (harg.unread x) = row8 x r := by
  subst hoff
  funext y
  rw [View.readAt_apply, harg.read_unread]
  exact congrArg x (funext fun a => Fin.ext (match a with
    | ⟨0, _⟩ => show r % 8 + 1 * (y 0).val = r % 8 from by have : (y 0).val < 1 := (y 0).isLt; omega
    | ⟨1, _⟩ => show 0 + 1 * (y 1).val = (y 1).val from by omega))

/-- A load of the scratch row's left half. -/
theorem load_left (v : View sig .tc .vmem S1x256 .f32) (f : v.ty.Contents (Elt F)) {d : Vec F S1x256 .f32}
    (h : v.read (Elt F) f = d) (inb : ∀ a, (![0, 0] : Fin 2 → ℕ) a + S1x128.size a ≤ S1x256.size a) :
    v.readAt (Elt F) (Rect.unit (s := S1x256) ![0, 0] S1x128.size inb).toLoadRect f = left d := by
  subst h
  funext y
  rw [View.readAt_apply]
  exact congrArg (v.read (Elt F) f) (funext fun a => Fin.ext (match a with
    | ⟨0, _⟩ => show 0 + 1 * (y 0).val = 0 from by have : (y 0).val < 1 := (y 0).isLt; omega
    | ⟨1, _⟩ => show 0 + 1 * (y 1).val = (y 1).val from by omega))

/-- A load of the scratch row's right half. -/
theorem load_right (v : View sig .tc .vmem S1x256 .f32) (f : v.ty.Contents (Elt F)) {d : Vec F S1x256 .f32}
    (h : v.read (Elt F) f = d) (inb : ∀ a, (![0, 128] : Fin 2 → ℕ) a + S1x128.size a ≤ S1x256.size a) :
    v.readAt (Elt F) (Rect.unit (s := S1x256) ![0, 128] S1x128.size inb).toLoadRect f = right d := by
  subst h
  funext y
  rw [View.readAt_apply]
  exact congrArg (v.read (Elt F) f) (funext fun a => Fin.ext (match a with
    | ⟨0, _⟩ => show 0 + 1 * (y 0).val = 0 from by have : (y 0).val < 1 := (y 0).isLt; omega
    | ⟨1, _⟩ => show 128 + 1 * (y 1).val = 128 + (y 1).val from by omega))

/-- The gates, each operand given by an equation. -/
theorem gates_of {x0 : Vec F S1x64 .f32} {x1 x2 x3 : Vec F S256x64 .f32} {x4 x5 x6 : Vec F S256x256 .f32}
    {x7 x8 x9 : Vec F S1x256 .f32} {x10 x11 : Vec F S8x128 .f32} {b p : ℕ} {w10 w11 : Vec F S1x128 .f32} {w0 w0' : Vec F S1x64 .f32}
    {w1 w2 w3 : Vec F S256x64 .f32} {w4 w5 w6 : Vec F S256x256 .f32} {w7 w8 w9 : Vec F S1x256 .f32}
    (e10 : w10 = row8 x10 b) (e11 : w11 = row8 x11 p) (e0 : w0 = x0) (e0' : w0' = x0) (e1 : w1 = x1) (e2 : w2 = x2)
    (e3 : w3 = x3) (e4 : w4 = x4) (e5 : w5 = x5) (e6 : w6 = x6) (e7 : w7 = x7) (e8 : w8 = x8) (e9 : w9 = x9) :
    k0_pay5 (k0_pay2 w10 w11) (k0_pay3 w0) (k0_pay4 w0' w1) w2 (constant S1x256 .f32 0x00000000#32) w3 w4 w7 w5 w8 w6 w9
      = gates x0 x1 x2 x3 x4 x5 x6 x7 x8 x9 x10 x11 b p := by
  subst e10 e11 e0 e0' e1 e2 e3 e4 e5 e6 e7 e8 e9; rfl

end Cert.KernelIdeal.Gru

end
-- ==== Proof.KernelIdeal.Body.lean ====
/- One run of the kernel's body, at any grid point: what it leaves in the output's buffer and in the scratch row. -/
module

public import proofs.«01_k».proof.Proof.KernelIdeal.Blocks
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WritesUnit
public import Idealize.ShloMosaic.Lib.VecWindow

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Gru

variable {F : FTy → Type} [FloatOps F]

local notation "𝕄" => MT nD τ sig Unit (Elt F) ℕ (UR sig nD τ) ℕ

/-- The table of two row numbers, as the body is given it. -/
abbrev tbM : Memref sig .tc .smem S2 .i32 := Memref.whole main_v1

/-- The contents of the table's buffer. -/
abbrev TbBuf (c : Dev nD) : Type := Buf (Elt F) (tbM.view.loc (c : Thread nD τ))

/-- The body's half of the table. -/
abbrev tbPt (c : Dev nD) (f : TbBuf (F := F) c) : sProp 𝕄 := tbM.view.loc (c : Thread nD τ) ↦{fullShare.right} f

/-- The first row number as the body reads it. -/
abbrev tw0 (c : Dev nD) (f : TbBuf (F := F) c) : BitVec 32 :=
  tbM.view.readAt (Elt F) (Rect.unit (s := S2) ![0] S1.size inb_S2_S1_0).toLoadRect f (Shape.Idx.first (numel1_S1.symm ▸ Nat.one_pos))

/-- The second row number as the body reads it. -/
abbrev tw1 (c : Dev nD) (f : TbBuf (F := F) c) : BitVec 32 :=
  tbM.view.readAt (Elt F) (Rect.unit (s := S2) ![1] S1.size inb_S2_S1_1).toLoadRect f (Shape.Idx.first (numel1_S1.symm ▸ Nat.one_pos))

set_option maxHeartbeats 8000000 in
/-- The body's triple. -/
theorem run (c : Dev nD) (i : grid0.Coords)
    (arg2 : Memref sig .tc .vmem S1x64 .f32) (harg2 : arg2.IsWhole)
    (arg3 : Memref sig .tc .vmem S256x64 .f32) (harg3 : arg3.IsWhole)
    (arg4 : Memref sig .tc .vmem S256x64 .f32) (harg4 : arg4.IsWhole)
    (arg5 : Memref sig .tc .vmem S256x64 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S8x128 .f32) (harg12 : arg12.IsWhole)
    (arg13 : Memref sig .tc .vmem S8x128 .f32) (harg13 : arg13.IsWhole)
    (arg14 : Memref sig .tc .vmem S25000x128 .f32) (harg14 : arg14.IsWhole)
    (arg15 : Memref sig .tc .vmem S25000x128 .f32) (harg15 : arg15.IsWhole)
    (arg16 : Memref sig .tc .vmem S1x256 .f32) (harg16 : arg16.IsWhole)
    (x0 : Vec F S1x64 .f32)
    (x1 : Vec F S256x64 .f32)
    (x2 : Vec F S256x64 .f32)
    (x3 : Vec F S256x64 .f32)
    (x4 : Vec F S256x256 .f32)
    (x5 : Vec F S256x256 .f32)
    (x6 : Vec F S256x256 .f32)
    (x7 : Vec F S1x256 .f32)
    (x8 : Vec F S1x256 .f32)
    (x9 : Vec F S1x256 .f32)
    (x10 : Vec F S8x128 .f32)
    (x11 : Vec F S8x128 .f32)
    (x12 : Vec F S25000x128 .f32)
    (xs : Vec F S1x256 .f32) (xt : TbBuf (F := F) c) (h0 : Row (tw0 c xt)) (h1 : Row (tw1 c xt)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xs ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (newOut (i 0).val (tw0 c xt).toNat (tw1 c xt).toNat x12 (newRow (i 0).val (tw0 c xt).toNat (tw1 c xt).toNat (gates x0 x1 x2 x3 x4 x5 x6 x7 x8 x9 x10 x11 (tw0 c xt).toNat (tw1 c xt).toNat) xs)) ∗ owns (c : Thread nD τ) arg16 fullShare (newRow (i 0).val (tw0 c xt).toNat (tw1 c xt).toNat (gates x0 x1 x2 x3 x4 x5 x6 x7 x8 x9 x10 x11 (tw0 c xt).toNat (tw1 c xt).toNat) xs) ∗ tbPt c xt) -∗ K ⟨⟩))
      ⊢ wp frame (wpE (defs₀ (F := F)) Variants.none c none) E (cc0__body i tbM (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have k0_hw1 : k0_chk1 i (tw0 c xt) (tw1 c xt) (tw0 c xt) := chk1 i _ _ h0
  have k0_hw2 : k0_chk2 i (tw0 c xt) (tw1 c xt) (tw1 c xt) := chk2 i _ _ h1
  have k0_hw3 : k0_chk3 i (tw0 c xt) := chk3 i h0
  have k0_hw4 : k0_chk4 i (tw1 c xt) := chk4 i h1
  simp only [cc0__body_eq_skeleton]; unfold cc0__body_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, HT0, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg16.eq_unread hfs0
  by_cases hc1 : k0_cond1 i (tw0 c xt) (tw1 c xt) = 1#1 <;> by_cases hc2 : k0_cond2 i (tw0 c xt) = 1#1 <;>
    by_cases hc3 : k0_cond3 i (tw1 c xt) = 1#1
  all_goals
    have n1 := (not_congr (cond1_iff i h0 h1)).mp
    have n2 := (not_congr (cond2_iff i h0)).mp
    have n3 := (not_congr (cond3_iff i h1)).mp
    have p1 := (cond1_iff i h0 h1).mp
    have p2 := (cond2_iff i h0).mp
    have p3 := (cond3_iff i h1).mp
    first
      | rw [show newRow (i 0).val (tw0 c xt).toNat (tw1 c xt).toNat _ xs = _ from if_pos (p1 hc1)]
      | rw [show newRow (i 0).val (tw0 c xt).toNat (tw1 c xt).toNat _ xs = _ from if_neg (n1 hc1)]
    first
      | rw [newOut_tt x12 _ (p2 hc2) (p3 hc3)]
      | rw [newOut_tf x12 _ (p2 hc2) (n3 hc3)]
      | rw [newOut_ft x12 _ (n2 hc2) (p3 hc3)]
      | rw [newOut_ff x12 _ (n2 hc2) (n3 hc3)]
    sl_exec (disch := first | sl_exact hc1 | sl_exact hc2 | sl_exact hc3 | sl_exact k0_hw1 | sl_exact k0_hw2 | sl_exact k0_hw3 | sl_exact k0_hw4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      first
        | have q3 := p3 hc3
          refine read_addRow _ _ _ _ _ _ (off4_eq i h1 q3.1) ?_ (load_right _ _ ?_ _)
        | have q3 := n3 hc3
      first
        | have q2 := p2 hc2
          refine read_addRow _ _ _ _ _ _ (off3_eq i h0 q2.1) ?_ (load_left _ _ ?_ _)
        | have q2 := n2 hc2
      exact read_block harg14 _ _ _ _ _
      all_goals first
        | have q1 := p1 hc1
          exact (View.read_writes_full _ _ _ _ _).trans (gates_of (load_row harg12 _ (off1_eq h0) _) (load_row harg13 _ (off2_eq h1) _)
            (load_whole harg2 _ _) (load_whole harg2 _ _) (load_whole harg3 _ _) (load_whole harg4 _ _) (load_whole harg5 _ _)
            (load_whole harg6 _ _) (load_whole harg7 _ _) (load_whole harg8 _ _) (load_whole harg9 _ _) (load_whole harg10 _ _)
            (load_whole harg11 _ _))
        | have q1 := n1 hc1
          exact harg16.read_unread _
    isplitl [HS0]
    · iexists _; isplitr; swap; · iexact HS0
      ipureintro
      first
        | have q1 := p1 hc1
          exact (View.read_writes_full _ _ _ _ _).trans (gates_of (load_row harg12 _ (off1_eq h0) _) (load_row harg13 _ (off2_eq h1) _)
            (load_whole harg2 _ _) (load_whole harg2 _ _) (load_whole harg3 _ _) (load_whole harg4 _ _) (load_whole harg5 _ _)
            (load_whole harg6 _ _) (load_whole harg7 _ _) (load_whole harg8 _ _) (load_whole harg9 _ _) (load_whole harg10 _ _)
            (load_whole harg11 _ _))
        | have q1 := n1 hc1
          exact harg16.read_unread _
    iexact HT0

end Cert.KernelIdeal.Gru

end
-- ==== Proof.KernelIdeal.Setup.lean ====
/- The launch of the kernel: what the region finds, its table of row numbers, and what each staging buffer holds. -/
module

public import proofs.«01_k».proof.Proof.KernelIdeal.Body
public import proofs.«01_k».proof.Proof.Gen.KernelIdeal.Launch
public import Idealize.ShloMosaic.Lib.Pipeline.FrameBody
public import Idealize.ShloMosaic.Lib.Pipeline.FrameSuffix

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gru

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered. -/
abbrev V0 (c : Dev nD) : Valuation τ sig (Elt F) := StableHlo.after (List.flatten [hostOps0]) (fun b => m (c, b))

/-- The same, read at a reference. -/
abbrev V (c : Dev nD) (b : Ref sig .tc) : Buf (Elt F) ((c : Thread nD τ).loc b) := V0 m c (Proc.devRef .tc b)

/-- The lines before the region allocate nothing. -/
theorem pre_fresh : (hostOps0 : List (HloOp τ sig (Elt F))).Forall fun op => op.fresh = ∅ := by
  simp only [List.Forall]; repeat' constructor

set_option maxHeartbeats 800000 in
/-- The program is the lines before the region, the region, and the line after it. -/
theorem hmain (𝒱₀ : Variants) : Pipeline.HMainPK (Ix := Unit) (Name := ℕ) (U := UR sig nD τ) (Lvl := ℕ) pcfgs 0 defs₀ 𝒱₀ m
    (main (F := F)) (V m) (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact pre_fresh) main_chain

/-- The line after the region touches the region's arrays and what the region leaves alone. -/
theorem tail_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j
  simp only [StableHlo.reshape_bufs, Finset.mem_insert, Finset.mem_singleton, not_or]
  and_intros <;> exact StableHlo.devRef_ne_of_ne (by decide)

/-- It allocates nothing. -/
theorem tail_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

/-- It writes no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain rfl := List.mem_singleton.mp hop
  rw [StableHlo.reshape_writes, Finset.mem_singleton]
  exact StableHlo.devRef_ne_of_ne ((by decide : ∀ w, Pipeline.arrRef spec0 w ≠ main_v17) w)

/-- The results of the lines before the region. -/
abbrev preResults : List (Ref sig .tc) := [main_v0, main_v1, main_cst, main_v2, main_cst_0, main_v3, main_cst_1, main_v4, main_cst_2, main_v5, main_cst_3, main_v6, main_cst_4, main_v7, main_cst_5, main_v8, main_cst_6, main_v9, main_cst_7, main_v10, main_cst_8, main_v11, main_v12, main_v13, main_v14, main_v15]

/-- What no line before the region writes, the region finds as the program did. -/
theorem V_kept (c : Dev nD) (b : Ref sig .tc) (hb : b ∉ preResults) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes, StableHlo.unary_writes, StableHlo.binary_writes, StableHlo.reshape_writes, Finset.mem_singleton]
    repeat' apply And.intro
    all_goals exact StableHlo.devRef_ne_of_ne (fun h => hb (by rw [h]; decide))))

/-- The table of row numbers as the region finds it (there is one core). -/
def tbl : pre0.Contents (Elt F) := fun j => V m (0 : Dev nD) (pre0.ref j)

/-- Every core finds it. -/
theorem V_pre (c : Dev nD) (j : Fin 1) : V m c (pre0.ref j) = tbl m j := by
  obtain rfl : c = 0 := Subsingleton.elim _ _
  rfl

/-- Both entries of the table are numbers of rows. -/
def Rows : Prop := Row (word0 (tbl m)) ∧ Row (word1 (tbl m))

/-- The first row's number. -/
def rowB : ℕ := (word0 (tbl m)).toNat
/-- The second row's number. -/
def rowP : ℕ := (word1 (tbl m)).toNat

/-- The table, as contents the region may run at. -/
abbrev adm (hR : Rows m) : (pcfg0 (F := F)).Adm := ⟨tbl m, ok_of_rows _ hR.1 hR.2⟩

/-- The region at that table. -/
abbrev cfgM (hR : Rows m) : Pipeline.Cfg sig Λ₀ := cfg0 (adm m hR)

/-- The half of the table the region hands the body. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-- Window `w`'s block at point `t`, of its array as the region finds it. -/
def iblk (hR : Rows m) (c : Dev nD) (w : Fin (cfgM m hR).W) (t : Fin (cfgM m hR).N) :
    (((cfgM m hR).win w).xblock ((cfgM m hR).grid.coords t)).Idx → Elt F ((cfgM m hR).win w).elt :=
  (((cfgM m hR).win w).blk t).view.read (Elt F) (V m c (Pipeline.arrRef spec0 w))

/-- The scratch row. -/
abbrev scM : Memref sig .tc .vmem S1x256 .f32 := Memref.whole cc0_scratch0

/-- The body's own buffers: the scratch row at some contents, and the generator's register. -/
theorem PhiA_eq (c : Dev nD) : (Pipeline.ΦA spec0 c : sProp 𝕄)
    = iprop(iprop((∃ d, owns (c : Thread nD τ) scM fullShare d)) ∗ (∃ r, prngReg c r)) := by
  unfold Pipeline.ΦA
  rw [scopedRest0_eq]
  simp only [scM, owns_whole]
  rfl

/-- The point's coordinate is the point's number. -/
theorem coords_val (t : Fin grid0.N) : (grid0.coords t 0).val = t.val := by
  revert t; decide

/-- The point whose block holds the smaller of the two row numbers. -/
def pt (hR : Rows m) : Fin (cfgM m hR).N :=
  ⟨min (rowB m) (rowP m) / 25000, by
    have h0 : rowB m < 200000 := hR.1
    show _ < grid0.N
    rw [N_0]; omega⟩

/-- The change of the two rows: the gates of what is staged at that point. -/
def dh (hR : Rows m) (c : Dev nD) : Vec F S1x256 .f32 :=
  gates (iblk m hR c 0 (pt m hR)) (iblk m hR c 1 (pt m hR)) (iblk m hR c 2 (pt m hR)) (iblk m hR c 3 (pt m hR)) (iblk m hR c 4 (pt m hR)) (iblk m hR c 5 (pt m hR)) (iblk m hR c 6 (pt m hR)) (iblk m hR c 7 (pt m hR)) (iblk m hR c 8 (pt m hR)) (iblk m hR c 9 (pt m hR)) (iblk m hR c 10 (pt m hR)) (iblk m hR c 11 (pt m hR)) (rowB m) (rowP m)

/-- What the output's block holds does not depend on the scratch row before the point that computes it. -/
theorem newOut_row {i b p : ℕ} (x : Vec F S25000x128 .f32) {g xs d : Vec F S1x256 .f32}
    (hg : i = min b p / 25000 → g = d) (hs : min b p / 25000 < i → xs = d) :
    newOut i b p x (newRow i b p g xs) = newOut i b p x d := by
  rcases lt_trichotomy i (min b p / 25000) with h | h | h
  · rw [newOut_ff _ _ (by omega) (by omega), newOut_ff _ _ (by omega) (by omega)]
  · rw [newRow, if_pos h, hg h]
  · rw [newRow, if_neg (by omega), hs h]

/-- From that point on the scratch row holds the change. -/
theorem newRow_after {i b p : ℕ} {g xs d : Vec F S1x256 .f32}
    (hg : i = min b p / 25000 → g = d) (hs : min b p / 25000 < i → xs = d) (h : min b p / 25000 < i + 1) :
    newRow i b p g xs = d := by
  rcases Nat.lt_or_ge (min b p / 25000) i with h' | h'
  · rw [newRow, if_neg (by omega), hs h']
  · rw [newRow, if_pos (by omega), hg (by omega)]

end Cert.KernelIdeal.Gru

end
-- ==== Proof.KernelIdeal.Frame.lean ====
/- The kernel's run: what its arrays hold at the end, and that its arguments end unchanged. -/
module

public import proofs.«01_k».proof.Proof.KernelIdeal.Setup

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gru

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- What the body may rely on before point `t`: past the point that computes it, the scratch row holds the change. -/
def Phi (hR : Rows m) (c : Dev nD) (t : ℕ) : sProp 𝕄 :=
  iprop(iprop((∃ s, ⌜(pt m hR).val < t → s = dh m hR c⌝ ∗ owns (c : Thread nD τ) scM fullShare s) ∗ (∃ r, prngReg c r))
    ∗ tbPt c (tbl m 0))

/-- The proof data of the region: every input's buffer keeps its block, the output's holds the updated block. -/
def dats (hR : Rows m) (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => iblk m hR c 4 t
    | ⟨5, _⟩ => iblk m hR c 5 t
    | ⟨6, _⟩ => iblk m hR c 6 t
    | ⟨7, _⟩ => iblk m hR c 7 t
    | ⟨8, _⟩ => iblk m hR c 8 t
    | ⟨9, _⟩ => iblk m hR c 9 t
    | ⟨10, _⟩ => iblk m hR c 10 t
    | ⟨11, _⟩ => iblk m hR c 11 t
    | ⟨12, _⟩ => iblk m hR c 12 t
    | ⟨13, _⟩ => newOut t.val (rowB m) (rowP m) (iblk m hR c 12 t) (dh m hR c)
  Φ t := Phi m hR c t.val
  q w := Pipeline.shareOf spec0 w
  owed _ := 0

/-- Its arrays are what the region finds. -/
theorem A_eq (hR : Rows m) (c : Dev nD) (w : Fin (cfgM m hR).W) : (dats m hR 0 c).A w = V m c (Pipeline.arrRef spec0 w) := by
  dsimp only [dats]

/-! The windows one by one: the staging buffers, what the body finds in the inputs' and leaves in all. -/

abbrev ms0 (hR : Rows m) (t : Fin (cfgM m hR).N) : Memref sig .tc .vmem S1x64 .f32 := spec0_0.stage ((cfgM m hR).slots t 0)
abbrev ms1 (hR : Rows m) (t : Fin (cfgM m hR).N) : Memref sig .tc .vmem S256x64 .f32 := spec0_1.stage ((cfgM m hR).slots t 1)
abbrev ms2 (hR : Rows m) (t : Fin (cfgM m hR).N) : Memref sig .tc .vmem S256x64 .f32 := spec0_2.stage ((cfgM m hR).slots t 2)
abbrev ms3 (hR : Rows m) (t : Fin (cfgM m hR).N) : Memref sig .tc .vmem S256x64 .f32 := spec0_3.stage ((cfgM m hR).slots t 3)
abbrev ms4 (hR : Rows m) (t : Fin (cfgM m hR).N) : Memref sig .tc .vmem S256x256 .f32 := spec0_4.stage ((cfgM m hR).slots t 4)
abbrev ms5 (hR : Rows m) (t : Fin (cfgM m hR).N) : Memref sig .tc .vmem S256x256 .f32 := spec0_5.stage ((cfgM m hR).slots t 5)
abbrev ms6 (hR : Rows m) (t : Fin (cfgM m hR).N) : Memref sig .tc .vmem S256x256 .f32 := spec0_6.stage ((cfgM m hR).slots t 6)
abbrev ms7 (hR : Rows m) (t : Fin (cfgM m hR).N) : Memref sig .tc .vmem S1x256 .f32 := spec0_7.stage ((cfgM m hR).slots t 7)
abbrev ms8 (hR : Rows m) (t : Fin (cfgM m hR).N) : Memref sig .tc .vmem S1x256 .f32 := spec0_8.stage ((cfgM m hR).slots t 8)
abbrev ms9 (hR : Rows m) (t : Fin (cfgM m hR).N) : Memref sig .tc .vmem S1x256 .f32 := spec0_9.stage ((cfgM m hR).slots t 9)
abbrev ms10 (hR : Rows m) (t : Fin (cfgM m hR).N) : Memref sig .tc .vmem S8x128 .f32 := spec0_10.stage ((cfgM m hR).slots t 10)
abbrev ms11 (hR : Rows m) (t : Fin (cfgM m hR).N) : Memref sig .tc .vmem S8x128 .f32 := spec0_11.stage ((cfgM m hR).slots t 11)
abbrev ms12 (hR : Rows m) (t : Fin (cfgM m hR).N) : Memref sig .tc .vmem S25000x128 .f32 := spec0_12.stage ((cfgM m hR).slots t 12)
abbrev ms13 (hR : Rows m) (t : Fin (cfgM m hR).N) : Memref sig .tc .vmem S25000x128 .f32 := spec0_13.stage ((cfgM m hR).slots t 13)
theorem after0 (hR : Rows m) (c : Dev nD) (t : Fin (cfgM m hR).N) : (dats m hR 0 c).after 0 t = iblk m hR c 0 t := rfl
theorem after1 (hR : Rows m) (c : Dev nD) (t : Fin (cfgM m hR).N) : (dats m hR 0 c).after 1 t = iblk m hR c 1 t := rfl
theorem after2 (hR : Rows m) (c : Dev nD) (t : Fin (cfgM m hR).N) : (dats m hR 0 c).after 2 t = iblk m hR c 2 t := rfl
theorem after3 (hR : Rows m) (c : Dev nD) (t : Fin (cfgM m hR).N) : (dats m hR 0 c).after 3 t = iblk m hR c 3 t := rfl
theorem after4 (hR : Rows m) (c : Dev nD) (t : Fin (cfgM m hR).N) : (dats m hR 0 c).after 4 t = iblk m hR c 4 t := rfl
theorem after5 (hR : Rows m) (c : Dev nD) (t : Fin (cfgM m hR).N) : (dats m hR 0 c).after 5 t = iblk m hR c 5 t := rfl
theorem after6 (hR : Rows m) (c : Dev nD) (t : Fin (cfgM m hR).N) : (dats m hR 0 c).after 6 t = iblk m hR c 6 t := rfl
theorem after7 (hR : Rows m) (c : Dev nD) (t : Fin (cfgM m hR).N) : (dats m hR 0 c).after 7 t = iblk m hR c 7 t := rfl
theorem after8 (hR : Rows m) (c : Dev nD) (t : Fin (cfgM m hR).N) : (dats m hR 0 c).after 8 t = iblk m hR c 8 t := rfl
theorem after9 (hR : Rows m) (c : Dev nD) (t : Fin (cfgM m hR).N) : (dats m hR 0 c).after 9 t = iblk m hR c 9 t := rfl
theorem after10 (hR : Rows m) (c : Dev nD) (t : Fin (cfgM m hR).N) : (dats m hR 0 c).after 10 t = iblk m hR c 10 t := rfl
theorem after11 (hR : Rows m) (c : Dev nD) (t : Fin (cfgM m hR).N) : (dats m hR 0 c).after 11 t = iblk m hR c 11 t := rfl
theorem after12 (hR : Rows m) (c : Dev nD) (t : Fin (cfgM m hR).N) : (dats m hR 0 c).after 12 t = iblk m hR c 12 t := rfl
theorem after13 (hR : Rows m) (c : Dev nD) (t : Fin (cfgM m hR).N) :
    (dats m hR 0 c).after 13 t = newOut t.val (rowB m) (rowP m) (iblk m hR c 12 t) (dh m hR c) := rfl
theorem before0 (hR : Rows m) (c : Dev nD) (t : Fin (cfgM m hR).N) (d) : (dats m hR 0 c).before 0 t d = iblk m hR c 0 t :=
  ((dats m hR 0 c).before_in_eq_fetched 0 rfl (fun _ => rfl) (fun _ _ _ => rfl) (fun _ => rfl) t d).trans rfl
theorem before1 (hR : Rows m) (c : Dev nD) (t : Fin (cfgM m hR).N) (d) : (dats m hR 0 c).before 1 t d = iblk m hR c 1 t :=
  ((dats m hR 0 c).before_in_eq_fetched 1 rfl (fun _ => rfl) (fun _ _ _ => rfl) (fun _ => rfl) t d).trans rfl
theorem before2 (hR : Rows m) (c : Dev nD) (t : Fin (cfgM m hR).N) (d) : (dats m hR 0 c).before 2 t d = iblk m hR c 2 t :=
  ((dats m hR 0 c).before_in_eq_fetched 2 rfl (fun _ => rfl) (fun _ _ _ => rfl) (fun _ => rfl) t d).trans rfl
theorem before3 (hR : Rows m) (c : Dev nD) (t : Fin (cfgM m hR).N) (d) : (dats m hR 0 c).before 3 t d = iblk m hR c 3 t :=
  ((dats m hR 0 c).before_in_eq_fetched 3 rfl (fun _ => rfl) (fun _ _ _ => rfl) (fun _ => rfl) t d).trans rfl
theorem before4 (hR : Rows m) (c : Dev nD) (t : Fin (cfgM m hR).N) (d) : (dats m hR 0 c).before 4 t d = iblk m hR c 4 t :=
  ((dats m hR 0 c).before_in_eq_fetched 4 rfl (fun _ => rfl) (fun _ _ _ => rfl) (fun _ => rfl) t d).trans rfl
theorem before5 (hR : Rows m) (c : Dev nD) (t : Fin (cfgM m hR).N) (d) : (dats m hR 0 c).before 5 t d = iblk m hR c 5 t :=
  ((dats m hR 0 c).before_in_eq_fetched 5 rfl (fun _ => rfl) (fun _ _ _ => rfl) (fun _ => rfl) t d).trans rfl
theorem before6 (hR : Rows m) (c : Dev nD) (t : Fin (cfgM m hR).N) (d) : (dats m hR 0 c).before 6 t d = iblk m hR c 6 t :=
  ((dats m hR 0 c).before_in_eq_fetched 6 rfl (fun _ => rfl) (fun _ _ _ => rfl) (fun _ => rfl) t d).trans rfl
theorem before7 (hR : Rows m) (c : Dev nD) (t : Fin (cfgM m hR).N) (d) : (dats m hR 0 c).before 7 t d = iblk m hR c 7 t :=
  ((dats m hR 0 c).before_in_eq_fetched 7 rfl (fun _ => rfl) (fun _ _ _ => rfl) (fun _ => rfl) t d).trans rfl
theorem before8 (hR : Rows m) (c : Dev nD) (t : Fin (cfgM m hR).N) (d) : (dats m hR 0 c).before 8 t d = iblk m hR c 8 t :=
  ((dats m hR 0 c).before_in_eq_fetched 8 rfl (fun _ => rfl) (fun _ _ _ => rfl) (fun _ => rfl) t d).trans rfl
theorem before9 (hR : Rows m) (c : Dev nD) (t : Fin (cfgM m hR).N) (d) : (dats m hR 0 c).before 9 t d = iblk m hR c 9 t :=
  ((dats m hR 0 c).before_in_eq_fetched 9 rfl (fun _ => rfl) (fun _ _ _ => rfl) (fun _ => rfl) t d).trans rfl
theorem before10 (hR : Rows m) (c : Dev nD) (t : Fin (cfgM m hR).N) (d) : (dats m hR 0 c).before 10 t d = iblk m hR c 10 t :=
  ((dats m hR 0 c).before_in_eq_fetched 10 rfl (fun _ => rfl) (fun _ _ _ => rfl) (fun _ => rfl) t d).trans rfl
theorem before11 (hR : Rows m) (c : Dev nD) (t : Fin (cfgM m hR).N) (d) : (dats m hR 0 c).before 11 t d = iblk m hR c 11 t :=
  ((dats m hR 0 c).before_in_eq_fetched 11 rfl (fun _ => rfl) (fun _ _ _ => rfl) (fun _ => rfl) t d).trans rfl
theorem before12 (hR : Rows m) (c : Dev nD) (t : Fin (cfgM m hR).N) (d) : (dats m hR 0 c).before 12 t d = iblk m hR c 12 t :=
  ((dats m hR 0 c).before_in_eq_fetched 12 rfl (fun _ => rfl) (fun _ _ _ => rfl) (fun _ => rfl) t d).trans rfl

/-- What the body is called with at point `t`. -/
def bodyPre (hR : Rows m) (c : Dev nD) (t : Fin (cfgM m hR).N) : sProp 𝕄 :=
  iprop(Phi m hR c t.val ∗ (dats m hR 0 c).owesAt () t.castSucc
    ∗ (∃ d, owns (c : Thread nD τ) (ms0 m hR t) fullShare ((dats m hR 0 c).before 0 t d))
    ∗ (∃ d, owns (c : Thread nD τ) (ms1 m hR t) fullShare ((dats m hR 0 c).before 1 t d))
    ∗ (∃ d, owns (c : Thread nD τ) (ms2 m hR t) fullShare ((dats m hR 0 c).before 2 t d))
    ∗ (∃ d, owns (c : Thread nD τ) (ms3 m hR t) fullShare ((dats m hR 0 c).before 3 t d))
    ∗ (∃ d, owns (c : Thread nD τ) (ms4 m hR t) fullShare ((dats m hR 0 c).before 4 t d))
    ∗ (∃ d, owns (c : Thread nD τ) (ms5 m hR t) fullShare ((dats m hR 0 c).before 5 t d))
    ∗ (∃ d, owns (c : Thread nD τ) (ms6 m hR t) fullShare ((dats m hR 0 c).before 6 t d))
    ∗ (∃ d, owns (c : Thread nD τ) (ms7 m hR t) fullShare ((dats m hR 0 c).before 7 t d))
    ∗ (∃ d, owns (c : Thread nD τ) (ms8 m hR t) fullShare ((dats m hR 0 c).before 8 t d))
    ∗ (∃ d, owns (c : Thread nD τ) (ms9 m hR t) fullShare ((dats m hR 0 c).before 9 t d))
    ∗ (∃ d, owns (c : Thread nD τ) (ms10 m hR t) fullShare ((dats m hR 0 c).before 10 t d))
    ∗ (∃ d, owns (c : Thread nD τ) (ms11 m hR t) fullShare ((dats m hR 0 c).before 11 t d))
    ∗ (∃ d, owns (c : Thread nD τ) (ms12 m hR t) fullShare ((dats m hR 0 c).before 12 t d))
    ∗ (∃ d, owns (c : Thread nD τ) (ms13 m hR t) fullShare ((dats m hR 0 c).before 13 t d)))

/-- What it returns. -/
def bodyPost (hR : Rows m) (c : Dev nD) (t : Fin (cfgM m hR).N) : sProp 𝕄 :=
  iprop(Phi m hR c (t.val + 1) ∗ (dats m hR 0 c).owesAt () t.succ
    ∗ owns (c : Thread nD τ) (ms0 m hR t) fullShare ((dats m hR 0 c).after 0 t)
    ∗ owns (c : Thread nD τ) (ms1 m hR t) fullShare ((dats m hR 0 c).after 1 t)
    ∗ owns (c : Thread nD τ) (ms2 m hR t) fullShare ((dats m hR 0 c).after 2 t)
    ∗ owns (c : Thread nD τ) (ms3 m hR t) fullShare ((dats m hR 0 c).after 3 t)
    ∗ owns (c : Thread nD τ) (ms4 m hR t) fullShare ((dats m hR 0 c).after 4 t)
    ∗ owns (c : Thread nD τ) (ms5 m hR t) fullShare ((dats m hR 0 c).after 5 t)
    ∗ owns (c : Thread nD τ) (ms6 m hR t) fullShare ((dats m hR 0 c).after 6 t)
    ∗ owns (c : Thread nD τ) (ms7 m hR t) fullShare ((dats m hR 0 c).after 7 t)
    ∗ owns (c : Thread nD τ) (ms8 m hR t) fullShare ((dats m hR 0 c).after 8 t)
    ∗ owns (c : Thread nD τ) (ms9 m hR t) fullShare ((dats m hR 0 c).after 9 t)
    ∗ owns (c : Thread nD τ) (ms10 m hR t) fullShare ((dats m hR 0 c).after 10 t)
    ∗ owns (c : Thread nD τ) (ms11 m hR t) fullShare ((dats m hR 0 c).after 11 t)
    ∗ owns (c : Thread nD τ) (ms12 m hR t) fullShare ((dats m hR 0 c).after 12 t)
    ∗ owns (c : Thread nD τ) (ms13 m hR t) fullShare ((dats m hR 0 c).after 13 t))

/-- The body, as the region calls it at point `t`. -/
abbrev bodyAt (hR : Rows m) (t : Fin (cfgM m hR).N) : Prog (TpuEff nD τ sig (Elt F) Λ₀ .tc) PUnit :=
  cc0__body (grid0.coords t) tbM (Memref.isWhole_whole _) (ms0 m hR t) (hstage0_0 (((cfgM m hR).slots t 0).cast nbuf0_0)) (ms1 m hR t) (hstage0_1 (((cfgM m hR).slots t 1).cast nbuf0_1)) (ms2 m hR t) (hstage0_2 (((cfgM m hR).slots t 2).cast nbuf0_2)) (ms3 m hR t) (hstage0_3 (((cfgM m hR).slots t 3).cast nbuf0_3)) (ms4 m hR t) (hstage0_4 (((cfgM m hR).slots t 4).cast nbuf0_4)) (ms5 m hR t) (hstage0_5 (((cfgM m hR).slots t 5).cast nbuf0_5)) (ms6 m hR t) (hstage0_6 (((cfgM m hR).slots t 6).cast nbuf0_6)) (ms7 m hR t) (hstage0_7 (((cfgM m hR).slots t 7).cast nbuf0_7)) (ms8 m hR t) (hstage0_8 (((cfgM m hR).slots t 8).cast nbuf0_8)) (ms9 m hR t) (hstage0_9 (((cfgM m hR).slots t 9).cast nbuf0_9)) (ms10 m hR t) (hstage0_10 (((cfgM m hR).slots t 10).cast nbuf0_10)) (ms11 m hR t) (hstage0_11 (((cfgM m hR).slots t 11).cast nbuf0_11)) (ms12 m hR t) (hstage0_12 (((cfgM m hR).slots t 12).cast nbuf0_12)) (ms13 m hR t) (hstage0_13 (((cfgM m hR).slots t 13).cast nbuf0_13)) scM (Memref.isWhole_whole _)

set_option maxHeartbeats 4000000 in
/-- The body at any point. -/
theorem sound_body (hR : Rows m) (c : Dev nD) (t : Fin (cfgM m hR).N) :
    bodyPre m hR c t ⊢ wp frame (wpE (defs₀ (F := F)) Variants.none c none) Set.univ (bodyAt m hR t) (fun _ => bodyPost m hR c t) := by
  have hi : (grid0.coords t 0).val = t.val := coords_val t
  have hg : t.val = min (rowB m) (rowP m) / 25000 →
      gates (iblk m hR c 0 t) (iblk m hR c 1 t) (iblk m hR c 2 t) (iblk m hR c 3 t) (iblk m hR c 4 t) (iblk m hR c 5 t) (iblk m hR c 6 t) (iblk m hR c 7 t) (iblk m hR c 8 t) (iblk m hR c 9 t) (iblk m hR c 10 t) (iblk m hR c 11 t) (rowB m) (rowP m) = dh m hR c := by
    intro h
    obtain rfl : t = pt m hR := Fin.ext h
    rfl
  unfold bodyPre bodyPost bodyAt
  simp only [before0, before1, before2, before3, before4, before5, before6, before7, before8, before9, before10, before11, before12]
  rw [show (dats m hR 0 c).owesAt () t.succ = (dats m hR 0 c).owesAt () t.castSucc from rfl,
    after0, after1, after2, after3, after4, after5, after6, after7, after8, after9, after10, after11, after12, after13]
  unfold Phi
  iintro ⟨⟨⟨⟨%s, %hs, HS⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run c (grid0.coords t) _ _ _ _ _ _ _ _ _ _ _ _ _ _ _ _ _ _ _ _ _ _ _ _ _ _ _ _ _ _ (iblk m hR c 0 t) (iblk m hR c 1 t) (iblk m hR c 2 t) (iblk m hR c 3 t) (iblk m hR c 4 t) (iblk m hR c 5 t) (iblk m hR c 6 t) (iblk m hR c 7 t) (iblk m hR c 8 t) (iblk m hR c 9 t) (iblk m hR c 10 t) (iblk m hR c 11 t) (iblk m hR c 12 t) s (tbl m 0) hR.1 hR.2 Set.univ _)
  rw [hi]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS]; · iexact HS
  isplitl [HT]; · iexact HT
  iintro ⟨H0, H1, H2, H3, H4, H5, H6, H7, H8, H9, H10, H11, H12, H13, HS, HT⟩
  isplitl [HS Hg HT]
  · isplitl [HS Hg]
    · isplitl [HS]
      · iexists _
        isplitr
        swap; · iexact HS
        ipureintro
        exact fun h => newRow_after hg hs h
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [← newOut_row (iblk m hR c 12 t) hg hs]
  iexact H13

/-- The body table's row is the body. -/
theorem defs₀_row (hR : Rows m) (t : Fin (cfgM m hR).N) :
    defs₀ (F := F) .tc (cfgM m hR).body ((cfgM m hR).bodyArgs t ((cfgM m hR).slots t)) = bodyAt m hR t := by
  unfold defs₀; rw [Defs.onTc_tc]

/-- The region's obligation on its body. -/
theorem body_obligation (hR : Rows m) (c : Dev nD) :
    BodyObligation (dats (F := F) m hR 0 c) (defs₀ (F := F)) Variants.none () Set.univ := fun t => by
  rw [bigSep_W0, bigSep_W0, defs₀_row m hR]
  exact triple_restated (sound_body m hR c t) rfl .rfl fun _ => .rfl

/-- What the launch hands the region is what the body relies on before the first point. -/
theorem hin (hR : Rows m) (c : Dev nD) :
    iprop(Pipeline.ΦA spec0 c ∗ Pipeline.ΦT pre0 (tbl m) c) ⊢ (dats m hR 0 c).Φ 0 := by
  rw [show (dats m hR 0 c).Φ 0 = Phi m hR c 0 from rfl, PhiA_eq, PhiT_eq]
  unfold Phi
  iintro ⟨⟨⟨%s, HS⟩, Hg⟩, HT⟩
  isplitl [HS Hg]
  · isplitl [HS]
    · iexists s
      isplitr
      · ipureintro
        exact fun h => absurd h (Nat.not_lt_zero _)
      iexact HS
    iexact Hg
  iexact HT

/-- After the last point the body's own buffers are given back. -/
theorem hout (hR : Rows m) (c : Dev nD) : (dats m hR 0 c).Φ (Fin.last (cfgM m hR).N) ⊢ Pipeline.ΦA spec0 c := by
  rw [show (dats m hR 0 c).Φ (Fin.last (cfgM m hR).N) = Phi m hR c (cfgM m hR).N from rfl, PhiA_eq]
  unfold Phi
  iintro ⟨⟨⟨%s, -, HS⟩, Hg⟩, -⟩
  isplitl [HS]
  · iexists s; iexact HS
  iexact Hg

/-- What the buffers hold after the line that follows the region. -/
abbrev W (hR : Rows m) (c : Dev nD) (b : Ref sig .tc) : Buf (Elt F) ((c : Thread nD τ).loc b) :=
  Pipeline.afterTail pcfgs (fun _ => adm m hR) (dats m hR) 0 (V0 m) [hostOps1] c b

-- the theorem's implicit arguments are found by unfolding plain definitions in a metavariable's type
set_option backward.isDefEq.respectTransparency.types false in
set_option maxHeartbeats 800000 in
/-- The program runs, its arrays end as the proof data say, and every counter ends at zero. -/
theorem run_main (hR : Rows m) : θ_run defs (onTc (τ := τ) (main (F := F))) (s₀ m ρ)
    (fun r => (Pipeline.FramePost (Pipeline.pin pcfgs fun _ => adm m hR) (dats m hR) 0 (W m hR)) r ∧ r.2.sem = fun _ => 0) :=
  Pipeline.θ_run_frameP_around_track_shared (Q' := _) pcfgs (fun _ => adm m hR) (dats m hR) (0 : Fin 1) launch₀0 defs₀ Variants.none m ρ main
    (hbody := fun c => (body_obligation m hR c).loose) (hq := fun _ _ _ => rfl)
    (howed := fun _ _ => rfl) (V₀ := V0 m) (opss := [hostOps1]) (hsub := tail_sub) (hfresh := tail_fresh) (hkeep := tail_keeps)
    (hmain := hmain m Variants.none) (hA := A_eq m hR) (hpf := V_pre m) (hin := hin m hR) (hout := hout m hR)

/-- What neither the region nor any line writes ends as the program found it. -/
theorem W_kept (hR : Rows m) (c : Dev nD) (b : Ref sig .tc) (hb : b ∉ preResults) (h17 : b ≠ main_v17)
    (hw : ∀ w, Pipeline.arrRef spec0 w ≠ b) : W m hR c b = m ((c : Thread nD τ).loc b) := by
  unfold W Pipeline.afterTail
  rw [StableHlo.after_of_forall_not_mem (b := Proc.devRef .tc b) _ _ (by
      intro op hop
      obtain rfl := List.mem_singleton.mp hop
      rw [StableHlo.reshape_writes, Finset.mem_singleton]
      exact StableHlo.devRef_ne_of_ne h17),
    Pipeline.withArrays_of_ne _ c (V0 m c) _ b (by exact hw)]
  exact V_kept m c b hb

/-- The arguments end as the program found them. -/
theorem args_kept (hR : Rows m) {r : PUnit × MemSt nD τ sig (Elt F)}
    (h : Pipeline.FramePost (Pipeline.pin pcfgs fun _ => adm m hR) (dats m hR) 0 (W m hR) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (by decide : main_arg0 ∈ Pipeline.restRefs sig spec0)).trans (W_kept m hR c main_arg0 (by decide) (by decide) (by decide)),
    ((h c).2 main_arg1 (by decide : main_arg1 ∈ Pipeline.restRefs sig spec0)).trans (W_kept m hR c main_arg1 (by decide) (by decide) (by decide)),
    ((h c).2 main_arg2 (by decide : main_arg2 ∈ Pipeline.restRefs sig spec0)).trans (W_kept m hR c main_arg2 (by decide) (by decide) (by decide)),
    ((h c).2 main_arg3 (by decide : main_arg3 ∈ Pipeline.restRefs sig spec0)).trans (W_kept m hR c main_arg3 (by decide) (by decide) (by decide)),
    ((h c).1 1).trans (((dats m hR 0 c).arrAt_in 1 rfl _).trans ((A_eq m hR c 1).trans (V_kept m c main_arg4 (by decide)))),
    ((h c).1 2).trans (((dats m hR 0 c).arrAt_in 2 rfl _).trans ((A_eq m hR c 2).trans (V_kept m c main_arg5 (by decide)))),
    ((h c).1 3).trans (((dats m hR 0 c).arrAt_in 3 rfl _).trans ((A_eq m hR c 3).trans (V_kept m c main_arg6 (by decide)))),
    ((h c).1 4).trans (((dats m hR 0 c).arrAt_in 4 rfl _).trans ((A_eq m hR c 4).trans (V_kept m c main_arg7 (by decide)))),
    ((h c).1 5).trans (((dats m hR 0 c).arrAt_in 5 rfl _).trans ((A_eq m hR c 5).trans (V_kept m c main_arg8 (by decide)))),
    ((h c).1 6).trans (((dats m hR 0 c).arrAt_in 6 rfl _).trans ((A_eq m hR c 6).trans (V_kept m c main_arg9 (by decide)))),
    ((h c).2 main_arg10 (by decide : main_arg10 ∈ Pipeline.restRefs sig spec0)).trans (W_kept m hR c main_arg10 (by decide) (by decide) (by decide)),
    ((h c).2 main_arg11 (by decide : main_arg11 ∈ Pipeline.restRefs sig spec0)).trans (W_kept m hR c main_arg11 (by decide) (by decide) (by decide)),
    ((h c).2 main_arg12 (by decide : main_arg12 ∈ Pipeline.restRefs sig spec0)).trans (W_kept m hR c main_arg12 (by decide) (by decide) (by decide))⟩

/-- The program runs, its arguments end unchanged, and every counter ends at zero. -/
theorem frame (hR : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨args_kept m hR h.1, h.2⟩) (run_main m ρ hR)

end Cert.KernelIdeal.Gru

end
-- ==== Proof.KernelIdeal.Table.lean ====
/- The table of row numbers that the region finds: the two index arguments one after the other. -/
module

public import proofs.«01_k».proof.Proof.KernelIdeal.Setup
public import Idealize.ShloMosaic.Lib.StableHlo.RunRead
public import Idealize.ShloMosaic.Lib.Pointwise

@[expose] public section

set_option maxRecDepth 16384

noncomputable section

namespace Cert.KernelIdeal.Gru

open Idealize.ShloMosaic Idealize.ShloMosaic.TcCoe Idealize.ShloMosaic.StableHlo
open Cert.KernelIdeal Cert.KernelIdeal.Gen Cert.Gru

variable {F : FTy → Type} [FloatOps F]

variable (m : (ℓ : Loc nD τ sig) → Buf (Elt F) ℓ)

/-- The table is the two arguments laid end to end. -/
theorem V_table (c : Dev nD) : V m c main_v1
    = concatenate S2 0 [⟨S1, m ((c.tc : Thread nD τ).loc main_arg1)⟩, ⟨S1, m ((c.tc : Thread nD τ).loc main_arg2)⟩] concatenates_S1_S1_S2_d0 := by
  unfold V V0
  simp only [List.flatten_cons, List.flatten_nil, List.append_nil]
  after_reads_simp
  rfl

/-- Its first word is the first argument. -/
theorem word0_eq : word0 (tbl m) = m (((0 : Dev nD).tc : Thread nD τ).loc main_arg1) (ix1 0) := by
  have e : word0 (tbl m) = V m (0 : Dev nD) main_v1 (ix1 0) := by
    show V m (0 : Dev nD) main_v1 _ = _
    refine congrArg _ (funext fun a => Fin.ext ?_)
    match a with
    | ⟨0, _⟩ => rfl
  rw [e, V_table]
  generalize m (((0 : Dev nD).tc : Thread nD τ).loc main_arg1) = u
  generalize m (((0 : Dev nD).tc : Thread nD τ).loc main_arg2) = v
  pointwise

/-- Its second word is the second argument. -/
theorem word1_eq : word1 (tbl m) = m (((0 : Dev nD).tc : Thread nD τ).loc main_arg2) (ix1 0) := by
  have e : word1 (tbl m) = V m (0 : Dev nD) main_v1 (ix1 1) := by
    show V m (0 : Dev nD) main_v1 _ = _
    refine congrArg _ (funext fun a => Fin.ext ?_)
    match a with
    | ⟨0, _⟩ => rfl
  rw [e, V_table]
  generalize m (((0 : Dev nD).tc : Thread nD τ).loc main_arg1) = u
  generalize m (((0 : Dev nD).tc : Thread nD τ).loc main_arg2) = v
  pointwise

/-- Where both arguments are rows of the table, so are its words. -/
theorem rows_of_range (h : (m (((0 : Dev nD).tc : Thread nD τ).loc main_arg1) (ix1 0)).toNat < 200000
    ∧ (m (((0 : Dev nD).tc : Thread nD τ).loc main_arg2) (ix1 0)).toNat < 200000) : Rows m := by
  unfold Rows
  rw [word0_eq, word1_eq]
  exact h

end Cert.KernelIdeal.Gru

end
-- ==== Proof.Update.lean ====
/- The change of the two rows as mathematics over the extended reals, and the row of the table it is added to. -/
module

public import Idealize.ShloMosaic.Lib.IdealHost
public import Idealize.ShloMosaic.Lib.ValueIdx

@[expose] public section

noncomputable section

namespace Cert.Gru

open Idealize.ShloMosaic

/-- An input's and a state's weighted sums, added. -/
def lin (W : Fin 256 → Fin 64 → EReal) (U : Fin 256 → Fin 256 → EReal) (x : Fin 64 → EReal) (h : Fin 256 → EReal)
    (j : Fin 256) : EReal := (∑ k, W j k * x k) + ∑ l, U j l * h l

/-- The reset gate: the logistic function of the weighted sums less the bias. -/
def reset (W : Fin 256 → Fin 64 → EReal) (U : Fin 256 → Fin 256 → EReal) (b : Fin 256 → EReal) (x : Fin 64 → EReal)
    (h : Fin 256 → EReal) (j : Fin 256) : EReal := Ideal.logistic (lin W U x h j - b j)

/-- The update gate: the logistic function of the weighted sums plus the bias. -/
def keep (W : Fin 256 → Fin 64 → EReal) (U : Fin 256 → Fin 256 → EReal) (b : Fin 256 → EReal) (x : Fin 64 → EReal)
    (h : Fin 256 → EReal) (j : Fin 256) : EReal := Ideal.logistic (lin W U x h j + b j)

/-- The candidate state: the hyperbolic tangent of the weighted sums of the input and of the state times the gate `r`. -/
def cand (W : Fin 256 → Fin 64 → EReal) (U : Fin 256 → Fin 256 → EReal) (b : Fin 256 → EReal) (x : Fin 64 → EReal)
    (h r : Fin 256 → EReal) (j : Fin 256) : EReal := Ideal.tanh (lin W U x (fun l => r l * h l) j + b j)

/-- The change of the state: the blend of the state and the candidate by the update gate, less the state. -/
def change (Wz Wr Wh : Fin 256 → Fin 64 → EReal) (Uz Ur Uh : Fin 256 → Fin 256 → EReal) (bz br bh : Fin 256 → EReal)
    (x : Fin 64 → EReal) (h : Fin 256 → EReal) (j : Fin 256) : EReal :=
  (keep Wz Uz bz x h j * h j + (1 - keep Wz Uz bz x h j) * cand Wh Uh bh x h (reset Wr Ur br x h) j) - h j

/-- Two rows of 128 side by side. -/
def pair (u v : Fin 128 → EReal) (l : Fin 256) : EReal :=
  if h : l.val < 128 then u ⟨l.val, h⟩ else v ⟨l.val - 128, by omega⟩

/-- The left half's position of a column. -/
def lo (j : Fin 128) : Fin 256 := ⟨j.val, by omega⟩
/-- The right half's position of a column. -/
def hi (j : Fin 128) : Fin 256 := ⟨128 + j.val, by omega⟩

/-- An entry of the table after the update: row `b` has the left half of the change added, and row `p` the right half. -/
def entry (b p r : ℕ) (s : EReal) (d : Fin 256 → EReal) (j : Fin 128) : EReal :=
  (s + if r = b then d (lo j) else 0) + if r = p then d (hi j) else 0

end Cert.Gru

end
-- ==== Proof.KernelIdeal.Gates.lean ====
/- The kernel's row of gates at a column, over the extended reals: the change of the two rows. -/
module

public import proofs.«01_k».proof.Proof.KernelIdeal.Blocks
public import proofs.«01_k».proof.Proof.Update
public import Idealize.ShloMosaic.Lib.MatmulPlain
public import Idealize.ShloMosaic.Lib.Pointwise

@[expose] public section

set_option maxRecDepth 16384

noncomputable section

namespace Cert.KernelIdeal.Gru

open Idealize.ShloMosaic Cert.KernelIdeal Cert.KernelIdeal.Gen Cert.Gru

/-- The product with a matrix of 64 columns, accumulated onto zero, at a column: the weighted sum. -/
theorem mat64 (l : FVec Ideal S1x64 .f32) (r : FVec Ideal S256x64 .f32) (j : Fin 256) :
    matmul (F := Ideal) dot_S1x64_S256x64_S1x256_1_1_0_0_n_n (some .fp32) l r (constant S1x256 .f32 0x00000000#32) (ix2 0 j)
      = ∑ k : Fin 64, r (ix2 j k) * l (ix2 0 k) := by
  have e : dot_S1x64_S256x64_S1x256_1_1_0_0_n_n = DotDims.transposedRhs 1 64 256 := rfl
  rw [e]
  refine (Ideal.matmul_transposedRhs_apply (some .fp32) l r _ 0 j).trans ?_
  show Ideal.ofBits .f32 0x00000000#32 + _ = _
  rw [Ideal.ofBits_zero_f32, zero_add]
  exact Finset.sum_congr rfl fun k _ => mul_comm _ _

/-- The product with a matrix of 256 columns, accumulated onto zero, at a column: the weighted sum. -/
theorem mat256 (l : FVec Ideal S1x256 .f32) (r : FVec Ideal S256x256 .f32) (j : Fin 256) :
    matmul (F := Ideal) dot_S1x256_S256x256_S1x256_1_1_0_0_n_n (some .fp32) l r (constant S1x256 .f32 0x00000000#32) (ix2 0 j)
      = ∑ k : Fin 256, r (ix2 j k) * l (ix2 0 k) := by
  have e : dot_S1x256_S256x256_S1x256_1_1_0_0_n_n = DotDims.transposedRhs 1 256 256 := rfl
  rw [e]
  refine (Ideal.matmul_transposedRhs_apply (some .fp32) l r _ 0 j).trans ?_
  show Ideal.ofBits .f32 0x00000000#32 + _ = _
  rw [Ideal.ofBits_zero_f32, zero_add]
  exact Finset.sum_congr rfl fun k _ => mul_comm _ _

/-- The two staged rows side by side, at a column. -/
theorem pay2_apply (u v : Vec Ideal S1x128 .f32) (l : Fin 256) :
    k0_pay2 (F := Ideal) u v (ix2 0 l) = pair (fun k => u (ix2 0 k)) (fun k => v (ix2 0 k)) l := by
  unfold k0_pay2
  simp only [shapeCast_self]
  pointwise
  unfold pair
  split <;> rfl

/-- The row of gates at a column is the change of the two rows there. -/
theorem gates_apply (x0 : Vec Ideal S1x64 .f32) (x1 x2 x3 : Vec Ideal S256x64 .f32) (x4 x5 x6 : Vec Ideal S256x256 .f32)
    (x7 x8 x9 : Vec Ideal S1x256 .f32) (x10 x11 : Vec Ideal S8x128 .f32) (b p : ℕ) (j : Fin 256) :
    gates x0 x1 x2 x3 x4 x5 x6 x7 x8 x9 x10 x11 b p (ix2 0 j)
      = change (fun j k => x1 (ix2 j k)) (fun j k => x2 (ix2 j k)) (fun j k => x3 (ix2 j k))
          (fun j k => x4 (ix2 j k)) (fun j k => x5 (ix2 j k)) (fun j k => x6 (ix2 j k))
          (fun j => x7 (ix2 0 j)) (fun j => x8 (ix2 0 j)) (fun j => x9 (ix2 0 j)) (fun k => x0 (ix2 0 k))
          (pair (fun k => row8 x10 b (ix2 0 k)) (fun k => row8 x11 p (ix2 0 k))) j := by
  have eh : ∀ l, k0_pay2 (F := Ideal) (row8 x10 b) (row8 x11 p) (ix2 0 l) = _ := pay2_apply (row8 x10 b) (row8 x11 p)
  unfold gates
  generalize k0_pay2 (F := Ideal) (row8 x10 b) (row8 x11 p) = hh at eh
  have ez : ∀ l, addf (addf (k0_pay4 (F := Ideal) x0 x1) (matmul (F := Ideal) dot_S1x256_S256x256_S1x256_1_1_0_0_n_n (some .fp32) hh x4 (constant S1x256 .f32 0x00000000#32))) x7 (ix2 0 l)
      = lin (fun j k => x1 (ix2 j k)) (fun j k => x4 (ix2 j k)) (fun k => x0 (ix2 0 k)) (fun l => hh (ix2 0 l)) l + x7 (ix2 0 l) := fun l => by
    unfold k0_pay4 k0_pay3
    simp only [shapeCast_self]
    rw [addf_apply, addf_apply, mat64, mat256]
    rfl
  unfold k0_pay5 k0_pay3
  simp only [shapeCast_self]
  have er : ∀ l, mulf (logistic (subf (addf (matmul (F := Ideal) dot_S1x64_S256x64_S1x256_1_1_0_0_n_n (some .fp32) x0 x2 (constant S1x256 .f32 0x00000000#32))
        (matmul (F := Ideal) dot_S1x256_S256x256_S1x256_1_1_0_0_n_n (some .fp32) hh x5 (constant S1x256 .f32 0x00000000#32))) x8)) hh (ix2 0 l)
      = reset (fun j k => x2 (ix2 j k)) (fun j k => x5 (ix2 j k)) (fun j => x8 (ix2 0 j)) (fun k => x0 (ix2 0 k)) (fun l => hh (ix2 0 l)) l * hh (ix2 0 l) := fun l => by
    rw [mulf_apply]
    show Ideal.logistic (_ + _ - _) * _ = _
    rw [mat64, mat256]
    rfl
  generalize mulf (logistic (subf (addf (matmul (F := Ideal) dot_S1x64_S256x64_S1x256_1_1_0_0_n_n (some .fp32) x0 x2 (constant S1x256 .f32 0x00000000#32))
        (matmul (F := Ideal) dot_S1x256_S256x256_S1x256_1_1_0_0_n_n (some .fp32) hh x5 (constant S1x256 .f32 0x00000000#32))) x8)) hh = rh at er
  generalize addf (addf (k0_pay4 (F := Ideal) x0 x1) (matmul (F := Ideal) dot_S1x256_S256x256_S1x256_1_1_0_0_n_n (some .fp32) hh x4 (constant S1x256 .f32 0x00000000#32))) x7 = zz at ez
  show (Ideal.logistic (zz (ix2 0 j)) * hh (ix2 0 j) + (Ideal.ofBits .f32 0x3F800000#32 - Ideal.logistic (zz (ix2 0 j)))
    * Ideal.tanh ((matmul (F := Ideal) dot_S1x64_S256x64_S1x256_1_1_0_0_n_n (some .fp32) x0 x3 (constant S1x256 .f32 0x00000000#32) (ix2 0 j)
      + matmul (F := Ideal) dot_S1x256_S256x256_S1x256_1_1_0_0_n_n (some .fp32) rh x6 (constant S1x256 .f32 0x00000000#32) (ix2 0 j)) + x9 (ix2 0 j))) - hh (ix2 0 j) = _
  rw [mat64, mat256, Ideal.ofBits_one_f32, ez]
  simp only [er, eh]
  rfl

end Cert.KernelIdeal.Gru

end
-- ==== Proof.KernelIdeal.Arrays.lean ====
/- What the region finds in its arrays, and each window's block of them at an index. -/
module

public import proofs.«01_k».proof.Proof.KernelIdeal.Frame
public import proofs.«01_k».proof.Proof.KernelIdeal.Table
public import proofs.«01_k».proof.Proof.KernelIdeal.Gates
public import Idealize.ShloMosaic.Lib.Pipeline.ValueKit

@[expose] public section

set_option maxRecDepth 16384

noncomputable section

namespace Cert.KernelIdeal.Gru

open Idealize.ShloMosaic Idealize.ShloMosaic.TcCoe Idealize.ShloMosaic.StableHlo
open Cert.KernelIdeal Cert.KernelIdeal.Gen Cert.Gru

variable {F : FTy → Type} [FloatOps F]

variable (m : (ℓ : Loc nD τ sig) → Buf (Elt F) ℓ)

/-- The table of rows is the argument's only plane. -/
theorem V_state (c : Dev nD) (r : Fin 200000) (k : Fin 128) :
    V m c main_v0 (ix2 r k) = m ((c.tc : Thread nD τ).loc main_arg3) (ix3 0 r k) := by
  have e : V m c main_v0 = shapeCast S200000x128 (m ((c.tc : Thread nD τ).loc main_arg3)) shapeCasts_S1x200000x128_S200000x128 := by
    unfold V V0
    simp only [List.flatten_cons, List.flatten_nil, List.append_nil]
    after_reads_simp
    rfl
  rw [e]
  exact shapeCast_apply _ _ (ix2 r k) (ix3 0 r k) (by
    rewrite [Shape.rowMajor_val_two, Shape.rowMajor_val_three]
    show (0 * 200000 + r.val) * 128 + k.val = r.val * 128 + k.val
    omega)

/-- The input is laid out as a row. -/
theorem V_input (c : Dev nD) (k : Fin 64) : V m c main_v12 (ix2 0 k) = m ((c.tc : Thread nD τ).loc main_arg0) (ix1 k) := by
  have e : V m c main_v12 = shapeCast S1x64 (m ((c.tc : Thread nD τ).loc main_arg0)) shapeCasts_S64_S1x64 := by
    unfold V V0
    simp only [List.flatten_cons, List.flatten_nil, List.append_nil]
    after_reads_simp
    rfl
  rw [e]
  exact shapeCast_apply _ _ (ix2 0 k) (ix1 k) (by
    rewrite [Shape.rowMajor_val_two, Shape.rowMajor_val_one]
    show k.val = 0 * 64 + k.val
    omega)

/-- The update gate's bias is laid out as a row. -/
theorem V_bias13 (c : Dev nD) (j : Fin 256) :
    V m c main_v13 (ix2 0 j) = m ((c.tc : Thread nD τ).loc main_arg10) (ix2 j 0) := by
  have e : V m c main_v13 = shapeCast S1x256 (m ((c.tc : Thread nD τ).loc main_arg10)) shapeCasts_S256x1_S1x256 := by
    unfold V V0
    simp only [List.flatten_cons, List.flatten_nil, List.append_nil]
    after_reads_simp
    rfl
  rw [e]
  exact shapeCast_apply _ _ (ix2 0 j) (ix2 j 0) (by
    rewrite [Shape.rowMajor_val_two, Shape.rowMajor_val_two]
    show j.val * 1 + 0 = 0 * 256 + j.val
    omega)

/-- The reset gate's bias is laid out as a row. -/
theorem V_bias14 (c : Dev nD) (j : Fin 256) :
    V m c main_v14 (ix2 0 j) = m ((c.tc : Thread nD τ).loc main_arg11) (ix2 j 0) := by
  have e : V m c main_v14 = shapeCast S1x256 (m ((c.tc : Thread nD τ).loc main_arg11)) shapeCasts_S256x1_S1x256 := by
    unfold V V0
    simp only [List.flatten_cons, List.flatten_nil, List.append_nil]
    after_reads_simp
    rfl
  rw [e]
  exact shapeCast_apply _ _ (ix2 0 j) (ix2 j 0) (by
    rewrite [Shape.rowMajor_val_two, Shape.rowMajor_val_two]
    show j.val * 1 + 0 = 0 * 256 + j.val
    omega)

/-- The candidate gate's bias is laid out as a row. -/
theorem V_bias15 (c : Dev nD) (j : Fin 256) :
    V m c main_v15 (ix2 0 j) = m ((c.tc : Thread nD τ).loc main_arg12) (ix2 j 0) := by
  have e : V m c main_v15 = shapeCast S1x256 (m ((c.tc : Thread nD τ).loc main_arg12)) shapeCasts_S256x1_S1x256 := by
    unfold V V0
    simp only [List.flatten_cons, List.flatten_nil, List.append_nil]
    after_reads_simp
    rfl
  rw [e]
  exact shapeCast_apply _ _ (ix2 0 j) (ix2 j 0) (by
    rewrite [Shape.rowMajor_val_two, Shape.rowMajor_val_two]
    show j.val * 1 + 0 = 0 * 256 + j.val
    omega)

variable (hR : Rows m) (c : Dev nD) (t : Fin (cfgM m hR).N)

/-- The input's block is the input. -/
theorem iblk0_at (k : Fin 64) : iblk m hR c 0 t (ix2 0 k) = m ((c.tc : Thread nD τ).loc main_arg0) (ix1 k) := by
  rw [← V_input m c k]
  show V m c main_v12 _ = _
  refine congrArg (V m c main_v12) (funext fun a => Fin.ext ?_)
  match a with
  | ⟨0, _⟩ => rfl
  | ⟨1, _⟩ => show 0 * 64 + 1 * k.val = k.val; omega

/-- The block of weight 1 is the weight. -/
theorem iblk1_at (j : Fin 256) (k : Fin 64) : iblk m hR c 1 t (ix2 j k) = m ((c.tc : Thread nD τ).loc main_arg4) (ix2 j k) := by
  rw [← V_kept m c main_arg4 (by decide)]
  show V m c main_arg4 _ = _
  refine congrArg (V m c main_arg4) (funext fun a => Fin.ext ?_)
  match a with
  | ⟨0, _⟩ => show 0 * 256 + 1 * j.val = j.val; omega
  | ⟨1, _⟩ => show 0 * 64 + 1 * k.val = k.val; omega

/-- The block of weight 2 is the weight. -/
theorem iblk2_at (j : Fin 256) (k : Fin 64) : iblk m hR c 2 t (ix2 j k) = m ((c.tc : Thread nD τ).loc main_arg5) (ix2 j k) := by
  rw [← V_kept m c main_arg5 (by decide)]
  show V m c main_arg5 _ = _
  refine congrArg (V m c main_arg5) (funext fun a => Fin.ext ?_)
  match a with
  | ⟨0, _⟩ => show 0 * 256 + 1 * j.val = j.val; omega
  | ⟨1, _⟩ => show 0 * 64 + 1 * k.val = k.val; omega

/-- The block of weight 3 is the weight. -/
theorem iblk3_at (j : Fin 256) (k : Fin 64) : iblk m hR c 3 t (ix2 j k) = m ((c.tc : Thread nD τ).loc main_arg6) (ix2 j k) := by
  rw [← V_kept m c main_arg6 (by decide)]
  show V m c main_arg6 _ = _
  refine congrArg (V m c main_arg6) (funext fun a => Fin.ext ?_)
  match a with
  | ⟨0, _⟩ => show 0 * 256 + 1 * j.val = j.val; omega
  | ⟨1, _⟩ => show 0 * 64 + 1 * k.val = k.val; omega

/-- The block of weight 4 is the weight. -/
theorem iblk4_at (j : Fin 256) (k : Fin 256) : iblk m hR c 4 t (ix2 j k) = m ((c.tc : Thread nD τ).loc main_arg7) (ix2 j k) := by
  rw [← V_kept m c main_arg7 (by decide)]
  show V m c main_arg7 _ = _
  refine congrArg (V m c main_arg7) (funext fun a => Fin.ext ?_)
  match a with
  | ⟨0, _⟩ => show 0 * 256 + 1 * j.val = j.val; omega
  | ⟨1, _⟩ => show 0 * 256 + 1 * k.val = k.val; omega

/-- The block of weight 5 is the weight. -/
theorem iblk5_at (j : Fin 256) (k : Fin 256) : iblk m hR c 5 t (ix2 j k) = m ((c.tc : Thread nD τ).loc main_arg8) (ix2 j k) := by
  rw [← V_kept m c main_arg8 (by decide)]
  show V m c main_arg8 _ = _
  refine congrArg (V m c main_arg8) (funext fun a => Fin.ext ?_)
  match a with
  | ⟨0, _⟩ => show 0 * 256 + 1 * j.val = j.val; omega
  | ⟨1, _⟩ => show 0 * 256 + 1 * k.val = k.val; omega

/-- The block of weight 6 is the weight. -/
theorem iblk6_at (j : Fin 256) (k : Fin 256) : iblk m hR c 6 t (ix2 j k) = m ((c.tc : Thread nD τ).loc main_arg9) (ix2 j k) := by
  rw [← V_kept m c main_arg9 (by decide)]
  show V m c main_arg9 _ = _
  refine congrArg (V m c main_arg9) (funext fun a => Fin.ext ?_)
  match a with
  | ⟨0, _⟩ => show 0 * 256 + 1 * j.val = j.val; omega
  | ⟨1, _⟩ => show 0 * 256 + 1 * k.val = k.val; omega

/-- The block of bias 1 is the bias. -/
theorem iblk7_at (j : Fin 256) : iblk m hR c 7 t (ix2 0 j) = m ((c.tc : Thread nD τ).loc main_arg10) (ix2 j 0) := by
  rw [← V_bias13 m c j]
  show V m c main_v13 _ = _
  refine congrArg (V m c main_v13) (funext fun a => Fin.ext ?_)
  match a with
  | ⟨0, _⟩ => rfl
  | ⟨1, _⟩ => show 0 * 256 + 1 * j.val = j.val; omega

/-- The block of bias 2 is the bias. -/
theorem iblk8_at (j : Fin 256) : iblk m hR c 8 t (ix2 0 j) = m ((c.tc : Thread nD τ).loc main_arg11) (ix2 j 0) := by
  rw [← V_bias14 m c j]
  show V m c main_v14 _ = _
  refine congrArg (V m c main_v14) (funext fun a => Fin.ext ?_)
  match a with
  | ⟨0, _⟩ => rfl
  | ⟨1, _⟩ => show 0 * 256 + 1 * j.val = j.val; omega

/-- The block of bias 3 is the bias. -/
theorem iblk9_at (j : Fin 256) : iblk m hR c 9 t (ix2 0 j) = m ((c.tc : Thread nD τ).loc main_arg12) (ix2 j 0) := by
  rw [← V_bias15 m c j]
  show V m c main_v15 _ = _
  refine congrArg (V m c main_v15) (funext fun a => Fin.ext ?_)
  match a with
  | ⟨0, _⟩ => rfl
  | ⟨1, _⟩ => show 0 * 256 + 1 * j.val = j.val; omega

/-- The row of the first block of eight rows that the first row number picks is the table's row of that number. -/
theorem iblk10_row (b : Fin 200000) (hb : rowB m = b.val) (k : Fin 128) :
    row8 (iblk m hR c 10 t) (rowB m) (ix2 0 k) = m ((c.tc : Thread nD τ).loc main_arg3) (ix3 0 b k) := by
  rw [← V_state m c b k]
  show V m c main_v0 _ = _
  refine congrArg (V m c main_v0) (funext fun a => Fin.ext ?_)
  have e := transform10_eq (tbl m) (grid0.coords t) hR.1
  match a with
  | ⟨0, _⟩ =>
    show cc0_transform_10 inb_S2_S1_0 numel1_S1 (tbl m) (grid0.coords t) 0 * 8 + 1 * (rowB m % 8) = b.val
    rw [e]
    show rowB m / 8 * 8 + 1 * (rowB m % 8) = b.val
    omega
  | ⟨1, _⟩ => show 0 * 128 + 1 * k.val = k.val; omega

/-- The row of the second block of eight rows that the second row number picks is the table's row of that number. -/
theorem iblk11_row (b : Fin 200000) (hb : rowP m = b.val) (k : Fin 128) :
    row8 (iblk m hR c 11 t) (rowP m) (ix2 0 k) = m ((c.tc : Thread nD τ).loc main_arg3) (ix3 0 b k) := by
  rw [← V_state m c b k]
  show V m c main_v0 _ = _
  refine congrArg (V m c main_v0) (funext fun a => Fin.ext ?_)
  have e := transform11_eq (tbl m) (grid0.coords t) hR.2
  match a with
  | ⟨0, _⟩ =>
    show cc0_transform_11 inb_S2_S1_1 numel1_S1 (tbl m) (grid0.coords t) 0 * 8 + 1 * (rowP m % 8) = b.val
    rw [e]
    show rowP m / 8 * 8 + 1 * (rowP m % 8) = b.val
    omega
  | ⟨1, _⟩ => show 0 * 128 + 1 * k.val = k.val; omega

/-- The block of the table at a grid point is the point's 25000 rows. -/
theorem iblk12_at (y : S25000x128.Idx) (r : Fin 200000) (k : Fin 128) (hr : t.val * 25000 + (y 0).val = r.val)
    (hk : (y 1).val = k.val) : iblk m hR c 12 t y = m ((c.tc : Thread nD τ).loc main_arg3) (ix3 0 r k) := by
  rw [← V_state m c r k]
  show V m c main_v0 _ = _
  refine congrArg (V m c main_v0) (funext fun a => Fin.ext ?_)
  have e := coords_val t
  match a with
  | ⟨0, _⟩ =>
    show (BitVec.ofNat 32 (grid0.coords t 0).val).toNat * 25000 + 1 * (y 0).val = r.val
    have ht : t.val < 8 := by rw [← N_0]; exact t.isLt
    rw [e, WordCmp.toNat_ofNat_of_lt (by omega)]
    omega
  | ⟨1, _⟩ => show 0 * 128 + 1 * (y 1).val = k.val; omega

end Cert.KernelIdeal.Gru

end
-- ==== Proof.KernelIdeal.Value.lean ====
/- What the kernel leaves in its result, over the extended reals: every entry of the table after the update. -/
module

public import proofs.«01_k».proof.Proof.KernelIdeal.Arrays

@[expose] public section

set_option maxRecDepth 16384

noncomputable section

namespace Cert.KernelIdeal.Gru

open Idealize.ShloMosaic Idealize.ShloMosaic.TcCoe Idealize.ShloMosaic.StableHlo
open Cert.KernelIdeal Cert.KernelIdeal.Gen Cert.Gru

variable (m : (ℓ : Loc nD τ sig) → Buf (Elt Ideal) ℓ) (hR : Rows m) (c : Dev nD)

/-- The change of the rows `b` and `p`, of the program's arguments. -/
def delta (b p : Fin 200000) : Fin 256 → EReal :=
  change (fun j k => m ((c.tc : Thread nD τ).loc main_arg4) (ix2 j k)) (fun j k => m ((c.tc : Thread nD τ).loc main_arg5) (ix2 j k))
    (fun j k => m ((c.tc : Thread nD τ).loc main_arg6) (ix2 j k)) (fun j k => m ((c.tc : Thread nD τ).loc main_arg7) (ix2 j k))
    (fun j k => m ((c.tc : Thread nD τ).loc main_arg8) (ix2 j k)) (fun j k => m ((c.tc : Thread nD τ).loc main_arg9) (ix2 j k))
    (fun j => m ((c.tc : Thread nD τ).loc main_arg10) (ix2 j 0)) (fun j => m ((c.tc : Thread nD τ).loc main_arg11) (ix2 j 0))
    (fun j => m ((c.tc : Thread nD τ).loc main_arg12) (ix2 j 0)) (fun k => m ((c.tc : Thread nD τ).loc main_arg0) (ix1 k))
    (pair (fun k => m ((c.tc : Thread nD τ).loc main_arg3) (ix3 0 b k)) (fun k => m ((c.tc : Thread nD τ).loc main_arg3) (ix3 0 p k)))

/-- Equal parts have equal changes. -/
theorem change_congr {Wz Wr Wh Wz' Wr' Wh' : Fin 256 → Fin 64 → EReal} {Uz Ur Uh Uz' Ur' Uh' : Fin 256 → Fin 256 → EReal}
    {bz br bh bz' br' bh' : Fin 256 → EReal} {x x' : Fin 64 → EReal} {h h' : Fin 256 → EReal}
    (e1 : Wz = Wz') (e2 : Wr = Wr') (e3 : Wh = Wh') (e4 : Uz = Uz') (e5 : Ur = Ur') (e6 : Uh = Uh')
    (e7 : bz = bz') (e8 : br = br') (e9 : bh = bh') (e10 : x = x') (e11 : h = h') (j : Fin 256) :
    change Wz Wr Wh Uz Ur Uh bz br bh x h j = change Wz' Wr' Wh' Uz' Ur' Uh' bz' br' bh' x' h' j := by
  rw [e1, e2, e3, e4, e5, e6, e7, e8, e9, e10, e11]

/-- The change the kernel computes is that of the rows the table names. -/
theorem dh_at {b p : Fin 200000} (hb : rowB m = b.val) (hp : rowP m = p.val) (j : Fin 256) :
    dh m hR c (ix2 0 j) = delta m c b p j := by
  refine (gates_apply (iblk m hR c 0 (pt m hR)) (iblk m hR c 1 (pt m hR)) (iblk m hR c 2 (pt m hR)) (iblk m hR c 3 (pt m hR))
    (iblk m hR c 4 (pt m hR)) (iblk m hR c 5 (pt m hR)) (iblk m hR c 6 (pt m hR)) (iblk m hR c 7 (pt m hR))
    (iblk m hR c 8 (pt m hR)) (iblk m hR c 9 (pt m hR)) (iblk m hR c 10 (pt m hR)) (iblk m hR c 11 (pt m hR))
    (rowB m) (rowP m) j).trans ?_
  exact change_congr
    (funext fun j => funext fun k => iblk1_at m hR c _ j k)
    (funext fun j => funext fun k => iblk2_at m hR c _ j k)
    (funext fun j => funext fun k => iblk3_at m hR c _ j k)
    (funext fun j => funext fun k => iblk4_at m hR c _ j k)
    (funext fun j => funext fun k => iblk5_at m hR c _ j k)
    (funext fun j => funext fun k => iblk6_at m hR c _ j k)
    (funext fun j => iblk7_at m hR c _ j)
    (funext fun j => iblk8_at m hR c _ j)
    (funext fun j => iblk9_at m hR c _ j)
    (funext fun k => iblk0_at m hR c _ k)
    (congrArg₂ pair (funext fun k => iblk10_row m hR c _ b hb k) (funext fun k => iblk11_row m hR c _ p hp k)) j

/-- The output's array at the region's end, entry by entry. -/
def result (b p : Fin 200000) : Vec Ideal S200000x128 .f32 := fun i =>
  entry b.val p.val (i 0).val (m ((c.tc : Thread nD τ).loc main_arg3) (ix3 0 (i 0) (i 1))) (delta m c b p) (i 1)

/-- An entry of the block the kernel leaves at a grid point. -/
theorem newOut_at (i b p : ℕ) (x : Vec Ideal S25000x128 .f32) (d : Vec Ideal S1x256 .f32) (y : S25000x128.Idx) :
    newOut i b p x d y = entry b p (i * 25000 + (y 0).val) (x y) (fun j => d (ix2 0 j)) (y 1) := by
  have el : left d (col y) = d (ix2 0 (lo (y 1))) := congrArg d (funext fun a => Fin.ext (match a with
    | ⟨0, _⟩ => rfl
    | ⟨1, _⟩ => rfl))
  have er : right d (col y) = d (ix2 0 (hi (y 1))) := congrArg d (funext fun a => Fin.ext (match a with
    | ⟨0, _⟩ => rfl
    | ⟨1, _⟩ => rfl))
  unfold newOut entry
  rw [el, er]
  by_cases hb : i * 25000 + (y 0).val = b <;> by_cases hp : i * 25000 + (y 0).val = p
  · simp only [if_pos hb, if_pos hp]; rfl
  · simp only [if_pos hb, if_neg hp, add_zero]; rfl
  · simp only [if_neg hb, if_pos hp, add_zero]; rfl
  · simp only [if_neg hb, if_neg hp, add_zero]

/-- The output's block is written back at every point. -/
theorem flush13 (t : Fin (cfgM m hR).N) : ((cfgM m hR).win 13).flush t = true :=
  (by decide +kernel : ∀ t : Fin grid0.N, Pipeline.Window.flushOf grid0 true cc0_transform_13 t = true) t

/-- The output's block map at a point. -/
theorem index13 (t : Fin (cfgM m hR).N) : ((cfgM m hR).win 13).index t = ![t.val, 0] := by
  show ![(BitVec.ofNat 32 (grid0.coords t 0).val).toNat, 0] = _
  have ht : t.val < 8 := by rw [← N_0]; exact t.isLt
  rw [coords_val t, WordCmp.toNat_ofNat_of_lt (by omega)]

/-- What the kernel leaves at an index of a block is the result at the index of the array the block places it at. -/
theorem block13 {b p : Fin 200000} (hb : rowB m = b.val) (hp : rowP m = p.val) (t : Fin (cfgM m hR).N) (y : S25000x128.Idx)
    (i : S200000x128.Idx) (h0 : (i 0).val = t.val * 25000 + (y 0).val) (h1 : (i 1).val = (y 1).val) :
    newOut t.val (rowB m) (rowP m) (iblk m hR c 12 t) (dh m hR c) y = result m c b p i := by
  refine (newOut_at t.val (rowB m) (rowP m) (iblk m hR c 12 t) (dh m hR c) y).trans ?_
  have ey : (y 1 : Fin 128) = i 1 := Fin.ext h1.symm
  show entry _ _ _ _ _ _ = entry b.val p.val (i 0).val (m ((c.tc : Thread nD τ).loc main_arg3) (ix3 0 (i 0) (i 1))) (delta m c b p) (i 1)
  rw [iblk12_at m hR c t y (i 0) (i 1) h0.symm h1.symm, funext (dh_at m hR c hb hp), hb, hp, h0]
  exact congrArg _ ey

/-- A block's row in the array. -/
theorem emb13_row (t : Fin (cfgM m hR).N) (y : S25000x128.Idx) :
    ((show S200000x128.Idx from (((cfgM m hR).win 13).blk t).view.emb y) 0).val = t.val * 25000 + (y 0).val := by
  show ((cfgM m hR).win 13).index t (0 : Fin 2) * 25000 + 1 * (y 0).val = _
  rw [index13 m hR t]
  show t.val * 25000 + 1 * (y 0).val = _
  omega

/-- A block's column in the array. -/
theorem emb13_col (t : Fin (cfgM m hR).N) (y : S25000x128.Idx) :
    ((show S200000x128.Idx from (((cfgM m hR).win 13).blk t).view.emb y) 1).val = (y 1).val := by
  show ((cfgM m hR).win 13).index t (1 : Fin 2) * 128 + 1 * (y 1).val = _
  rw [index13 m hR t]
  show 0 * 128 + 1 * (y 1).val = _
  omega

/-- Every entry of the output's array lies in a block some point writes back. -/
theorem cover13 (i : S200000x128.Idx) :
    ∃ t : Fin (cfgM m hR).N, ((cfgM m hR).win 13).flush t = true ∧ i ∈ (((cfgM m hR).win 13).blk t).view.set := by
  have h0 : (i 0).val < 200000 := (i 0).isLt
  have h1 : (i 1).val < 128 := (i 1).isLt
  obtain ⟨s, hs⟩ : ∃ s : Fin (cfgM m hR).N, s.val = (i 0).val / 25000 :=
    ⟨⟨(i 0).val / 25000, by show _ < grid0.N; rw [N_0]; omega⟩, rfl⟩
  refine ⟨s, flush13 m hR s, (((cfgM m hR).win 13).emb_mem_blk_iff s i rfl).mpr fun a => ?_⟩
  rw [index13 m hR s]
  match a with
  | ⟨0, _⟩ => show s.val * 25000 ≤ (i 0).val ∧ (i 0).val < s.val * 25000 + 25000; omega
  | ⟨1, _⟩ => show 0 * 128 ≤ (i 1).val ∧ (i 1).val < 0 * 128 + 128; omega

/-- The output's array at the region's end. -/
theorem arr13 {b p : Fin 200000} (hb : rowB m = b.val) (hp : rowP m = p.val) :
    (dats m hR 0 c).arrAt 13 (cfgM m hR).N = result m c b p :=
  (dats m hR 0 c).arrAt_eq_of_emb 13 (result m c b p)
    (fun t _ y => block13 m hR c hb hp t y _ (emb13_row m hR t y) (emb13_col m hR t y)) (cover13 m hR)

/-- The program's result, entry by entry. -/
theorem W_at {b p : Fin 200000} (hb : rowB m = b.val) (hp : rowP m = p.val) (r : Fin 200000) (k : Fin 128) :
    W m hR c main_v17 (ix3 0 r k)
      = entry b.val p.val r.val (m ((c.tc : Thread nD τ).loc main_arg3) (ix3 0 r k)) (delta m c b p) k := by
  have e : W m hR c main_v17 = shapeCast S1x200000x128 (result m c b p) shapeCasts_S200000x128_S1x200000x128 := by
    have hsh : ∀ w w' : Fin 14, w ≠ w' → Pipeline.arrRef spec0 w = Pipeline.arrRef spec0 w' → (spec0 w).isOut = false := by decide
    have e13 : Pipeline.withArrays (Pipeline.pin pcfgs (fun _ => adm m hR) 0).spec c (V0 m c)
        (fun w => (dats m hR 0 c).arrAt w (Pipeline.pin pcfgs (fun _ => adm m hR) 0).N) (Proc.devRef .tc main_v16) = result m c b p :=
      (Pipeline.withArrays_arr_shared _ c (V0 m c) _
        (fun w w' hne he => ((dats m hR 0 c).arrAt_in w (hsh w w' hne he) _).trans (A_eq m hR c w)) 13).trans (arr13 m hR c hb hp)
    unfold W Pipeline.afterTail
    simp only [List.flatten_cons, List.flatten_nil, List.append_nil]
    after_reads_simp
    rw [e13]
    rfl
  rw [e]
  exact shapeCast_apply _ _ (ix3 0 r k) (ix2 r k) (by
    rewrite [Shape.rowMajor_val_two, Shape.rowMajor_val_three]
    show r.val * 128 + k.val = (0 * 200000 + r.val) * 128 + k.val
    omega)

end Cert.KernelIdeal.Gru

end
-- ==== Proof.ReferenceIdeal.Read.lean ====
/-
The reference program, one operation at a time. `val_<buffer>` is the value an operation writes, as a function of the
arguments of @main it depends on; `val_<buffer>_apply` reads that value at an index.
-/
module

public import proofs.«01_k».proof.Proof.Gen.ReferenceIdeal
public import Idealize.ShloMosaic.Lib.Pipeline.Value
public import Idealize.ShloMosaic.Lib.ValueIdx
public import Idealize.ShloMosaic.PureOps.Ideal.Laws

@[expose] public section

noncomputable section

namespace Cert.ReferenceIdeal.Gru

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg3 : (tensor<1x200000x128xf32>) -> tensor<200000x128xf32>
def val_main_v0 (x3 : (⟨S1x200000x128, .f32⟩ : BufTy).Contents (Elt F)) : (⟨S200000x128, .f32⟩ : BufTy).Contents (Elt F) :=
  shapeCast _ (x3) shapeCasts_S1x200000x128_S200000x128
set_option backward.proofsInPublic true in
abbrev idx_main_v0 (i : S200000x128.Idx) : S1x200000x128.Idx := fun a => match a with
  | ⟨0, _⟩ => ⟨0, Nat.one_pos⟩
  | ⟨1, _⟩ => ⟨((i 0).val * 128 + (i 1).val) / 128 % 200000, by have h0 : (i 0).val < 200000 := (i 0).isLt; have h1 : (i 1).val < 128 := (i 1).isLt; show ((i 0).val * 128 + (i 1).val) / 128 % 200000 < 200000; omega⟩
  | ⟨2, _⟩ => ⟨((i 0).val * 128 + (i 1).val) % 128, by have h0 : (i 0).val < 200000 := (i 0).isLt; have h1 : (i 1).val < 128 := (i 1).isLt; show ((i 0).val * 128 + (i 1).val) % 128 < 128; omega⟩
theorem val_main_v0_apply (x3 : (⟨S1x200000x128, .f32⟩ : BufTy).Contents (Elt F)) (i : S200000x128.Idx) :
    val_main_v0 (F := F) x3 i = x3 (idx_main_v0 i) := by
  unfold val_main_v0
  exact shapeCast_apply x3 shapeCasts_S1x200000x128_S200000x128 i (idx_main_v0 i)
    (by rewrite [Shape.rowMajor_val_three, Shape.rowMajor_val_two]; have h0 : (i 0).val < 200000 := (i 0).isLt; have h1 : (i 1).val < 128 := (i 1).isLt; show (0 * 200000 + ((i 0).val * 128 + (i 1).val) / 128 % 200000) * 128 + ((i 0).val * 128 + (i 1).val) % 128 = (i 0).val * 128 + (i 1).val; omega)

-- %1 = stablehlo.reshape %arg1 : (tensor<1xi32>) -> tensor<i32>
def val_main_v1 (x1 : (⟨S1, .i32⟩ : BufTy).Contents (Elt F)) : (⟨S_, .i32⟩ : BufTy).Contents (Elt F) :=
  shapeCast _ (x1) shapeCasts_S1_S_

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %2 = stablehlo.compare LT, %1, %c, SIGNED : (tensor<i32>, tensor<i32>) -> tensor<i1>
def val_main_v2 (x1 : (⟨S1, .i32⟩ : BufTy).Contents (Elt F)) : (⟨S_, .i1⟩ : BufTy).Contents (Elt F) :=
  cmpi .slt (val_main_v1 (F := F) x1) (val_main_c (F := F))
theorem val_main_v2_apply (x1 : (⟨S1, .i32⟩ : BufTy).Contents (Elt F)) (i : S_.Idx) :
    val_main_v2 (F := F) x1 i = IntOp.cmpi .slt (val_main_v1 (F := F) x1 i) (val_main_c (F := F) i) := rfl

-- %c_0 = stablehlo.constant dense<200000> : tensor<i32>
def val_main_c_0 : (⟨S_, .i32⟩ : BufTy).Contents (Elt F) :=
  constantI S_ 32 200000#32
theorem val_main_c_0_apply (i : S_.Idx) :
    val_main_c_0 (F := F) i = 200000#32 := rfl

-- %3 = stablehlo.add %1, %c_0 : tensor<i32>
def val_main_v3 (x1 : (⟨S1, .i32⟩ : BufTy).Contents (Elt F)) : (⟨S_, .i32⟩ : BufTy).Contents (Elt F) :=
  addi (val_main_v1 (F := F) x1) (val_main_c_0 (F := F))
theorem val_main_v3_apply (x1 : (⟨S1, .i32⟩ : BufTy).Contents (Elt F)) (i : S_.Idx) :
    val_main_v3 (F := F) x1 i = IntOp.addi (val_main_v1 (F := F) x1 i) (val_main_c_0 (F := F) i) := rfl

-- %4 = stablehlo.select %2, %3, %1 : tensor<i1>, tensor<i32>
def val_main_v4 (x1 : (⟨S1, .i32⟩ : BufTy).Contents (Elt F)) : (⟨S_, .i32⟩ : BufTy).Contents (Elt F) :=
  select (val_main_v2 (F := F) x1) (val_main_v3 (F := F) x1) (val_main_v1 (F := F) x1)
theorem val_main_v4_apply (x1 : (⟨S1, .i32⟩ : BufTy).Contents (Elt F)) (i : S_.Idx) :
    val_main_v4 (F := F) x1 i = Scalar.select (val_main_v2 (F := F) x1 i) (val_main_v3 (F := F) x1 i) (val_main_v1 (F := F) x1 i) := rfl

-- %c_1 = stablehlo.constant dense<0> : tensor<i32>
def val_main_c_1 : (⟨S_, .i32⟩ : BufTy).Contents (Elt F) :=
  constantI S_ 32 0#32
theorem val_main_c_1_apply (i : S_.Idx) :
    val_main_c_1 (F := F) i = 0#32 := rfl

-- %c_2 = stablehlo.constant dense<0> : tensor<i32>
def val_main_c_2 : (⟨S_, .i32⟩ : BufTy).Contents (Elt F) :=
  constantI S_ 32 0#32
theorem val_main_c_2_apply (i : S_.Idx) :
    val_main_c_2 (F := F) i = 0#32 := rfl

-- %5 = stablehlo.compare LT, %c_1, %c_2, SIGNED : (tensor<i32>, tensor<i32>) -> tensor<i1>
def val_main_v5 : (⟨S_, .i1⟩ : BufTy).Contents (Elt F) :=
  cmpi .slt (val_main_c_1 (F := F)) (val_main_c_2 (F := F))
theorem val_main_v5_apply (i : S_.Idx) :
    val_main_v5 (F := F) i = IntOp.cmpi .slt (val_main_c_1 (F := F) i) (val_main_c_2 (F := F) i) := rfl

-- %c_3 = stablehlo.constant dense<0> : tensor<i32>
def val_main_c_3 : (⟨S_, .i32⟩ : BufTy).Contents (Elt F) :=
  constantI S_ 32 0#32
theorem val_main_c_3_apply (i : S_.Idx) :
    val_main_c_3 (F := F) i = 0#32 := rfl

-- %c_4 = stablehlo.constant dense<128> : tensor<i32>
def val_main_c_4 : (⟨S_, .i32⟩ : BufTy).Contents (Elt F) :=
  constantI S_ 32 128#32
theorem val_main_c_4_apply (i : S_.Idx) :
    val_main_c_4 (F := F) i = 128#32 := rfl

-- %6 = stablehlo.add %c_3, %c_4 : tensor<i32>
def val_main_v6 : (⟨S_, .i32⟩ : BufTy).Contents (Elt F) :=
  addi (val_main_c_3 (F := F)) (val_main_c_4 (F := F))
theorem val_main_v6_apply (i : S_.Idx) :
    val_main_v6 (F := F) i = IntOp.addi (val_main_c_3 (F := F) i) (val_main_c_4 (F := F) i) := rfl

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- %7 = stablehlo.select %5, %6, %c_5 : tensor<i1>, tensor<i32>
def val_main_v7 : (⟨S_, .i32⟩ : BufTy).Contents (Elt F) :=
  select (val_main_v5 (F := F)) (val_main_v6 (F := F)) (val_main_c_5 (F := F))
theorem val_main_v7_apply (i : S_.Idx) :
    val_main_v7 (F := F) i = Scalar.select (val_main_v5 (F := F) i) (val_main_v6 (F := F) i) (val_main_c_5 (F := F) i) := rfl

-- %8 = stablehlo.dynamic_slice %0, %4, %7, sizes = [1, 128] : (tensor<200000x128xf32>, tensor<i32>, tensor<i32>) -> tensor<1x128xf32>
def val_main_v8 (x1 : (⟨S1, .i32⟩ : BufTy).Contents (Elt F)) (x3 : (⟨S1x200000x128, .f32⟩ : BufTy).Contents (Elt F)) : (⟨S1x128, .f32⟩ : BufTy).Contents (Elt F) :=
  Host.dynamicSlice S1x128 (val_main_v0 (F := F) x3) (fun k => (((![val_main_v4 (F := F) x1, val_main_v7 (F := F)] : Fin 2 → (⟨S_, .i32⟩ : BufTy).Contents (Elt F))) k (Shape.Idx.first h_S_)).toInt) sliceFits_S200000x128_S1x128

-- %9 = stablehlo.reshape %8 : (tensor<1x128xf32>) -> tensor<128xf32>
def val_main_v9 (x1 : (⟨S1, .i32⟩ : BufTy).Contents (Elt F)) (x3 : (⟨S1x200000x128, .f32⟩ : BufTy).Contents (Elt F)) : (⟨S128, .f32⟩ : BufTy).Contents (Elt F) :=
  shapeCast _ (val_main_v8 (F := F) x1 x3) shapeCasts_S1x128_S128
set_option backward.proofsInPublic true in
abbrev idx_main_v9 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v9_apply (x1 : (⟨S1, .i32⟩ : BufTy).Contents (Elt F)) (x3 : (⟨S1x200000x128, .f32⟩ : BufTy).Contents (Elt F)) (i : S128.Idx) :
    val_main_v9 (F := F) x1 x3 i = val_main_v8 (F := F) x1 x3 (idx_main_v9 i) := by
  unfold val_main_v9
  generalize val_main_v8 (F := F) x1 x3 = y
  exact shapeCast_apply y shapeCasts_S1x128_S128 i (idx_main_v9 i)
    (by rewrite [Shape.rowMajor_val_two, Shape.rowMajor_val_one]; have h0 : (i 0).val < 128 := (i 0).isLt; show 0 * 128 + ((i 0).val) % 128 = (i 0).val; omega)

-- %10 = stablehlo.reshape %arg2 : (tensor<1xi32>) -> tensor<i32>
def val_main_v10 (x2 : (⟨S1, .i32⟩ : BufTy).Contents (Elt F)) : (⟨S_, .i32⟩ : BufTy).Contents (Elt F) :=
  shapeCast _ (x2) shapeCasts_S1_S_

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %11 = stablehlo.compare LT, %10, %c_6, SIGNED : (tensor<i32>, tensor<i32>) -> tensor<i1>
def val_main_v11 (x2 : (⟨S1, .i32⟩ : BufTy).Contents (Elt F)) : (⟨S_, .i1⟩ : BufTy).Contents (Elt F) :=
  cmpi .slt (val_main_v10 (F := F) x2) (val_main_c_6 (F := F))
theorem val_main_v11_apply (x2 : (⟨S1, .i32⟩ : BufTy).Contents (Elt F)) (i : S_.Idx) :
    val_main_v11 (F := F) x2 i = IntOp.cmpi .slt (val_main_v10 (F := F) x2 i) (val_main_c_6 (F := F) i) := rfl

-- %c_7 = stablehlo.constant dense<200000> : tensor<i32>
def val_main_c_7 : (⟨S_, .i32⟩ : BufTy).Contents (Elt F) :=
  constantI S_ 32 200000#32
theorem val_main_c_7_apply (i : S_.Idx) :
    val_main_c_7 (F := F) i = 200000#32 := rfl

-- %12 = stablehlo.add %10, %c_7 : tensor<i32>
def val_main_v12 (x2 : (⟨S1, .i32⟩ : BufTy).Contents (Elt F)) : (⟨S_, .i32⟩ : BufTy).Contents (Elt F) :=
  addi (val_main_v10 (F := F) x2) (val_main_c_7 (F := F))
theorem val_main_v12_apply (x2 : (⟨S1, .i32⟩ : BufTy).Contents (Elt F)) (i : S_.Idx) :
    val_main_v12 (F := F) x2 i = IntOp.addi (val_main_v10 (F := F) x2 i) (val_main_c_7 (F := F) i) := rfl

-- %13 = stablehlo.select %11, %12, %10 : tensor<i1>, tensor<i32>
def val_main_v13 (x2 : (⟨S1, .i32⟩ : BufTy).Contents (Elt F)) : (⟨S_, .i32⟩ : BufTy).Contents (Elt F) :=
  select (val_main_v11 (F := F) x2) (val_main_v12 (F := F) x2) (val_main_v10 (F := F) x2)
theorem val_main_v13_apply (x2 : (⟨S1, .i32⟩ : BufTy).Contents (Elt F)) (i : S_.Idx) :
    val_main_v13 (F := F) x2 i = Scalar.select (val_main_v11 (F := F) x2 i) (val_main_v12 (F := F) x2 i) (val_main_v10 (F := F) x2 i) := rfl

-- %c_8 = stablehlo.constant dense<0> : tensor<i32>
def val_main_c_8 : (⟨S_, .i32⟩ : BufTy).Contents (Elt F) :=
  constantI S_ 32 0#32
theorem val_main_c_8_apply (i : S_.Idx) :
    val_main_c_8 (F := F) i = 0#32 := rfl

-- %c_9 = stablehlo.constant dense<0> : tensor<i32>
def val_main_c_9 : (⟨S_, .i32⟩ : BufTy).Contents (Elt F) :=
  constantI S_ 32 0#32
theorem val_main_c_9_apply (i : S_.Idx) :
    val_main_c_9 (F := F) i = 0#32 := rfl

-- %14 = stablehlo.compare LT, %c_8, %c_9, SIGNED : (tensor<i32>, tensor<i32>) -> tensor<i1>
def val_main_v14 : (⟨S_, .i1⟩ : BufTy).Contents (Elt F) :=
  cmpi .slt (val_main_c_8 (F := F)) (val_main_c_9 (F := F))
theorem val_main_v14_apply (i : S_.Idx) :
    val_main_v14 (F := F) i = IntOp.cmpi .slt (val_main_c_8 (F := F) i) (val_main_c_9 (F := F) i) := rfl

-- %c_10 = stablehlo.constant dense<0> : tensor<i32>
def val_main_c_10 : (⟨S_, .i32⟩ : BufTy).Contents (Elt F) :=
  constantI S_ 32 0#32
theorem val_main_c_10_apply (i : S_.Idx) :
    val_main_c_10 (F := F) i = 0#32 := rfl

-- %c_11 = stablehlo.constant dense<128> : tensor<i32>
def val_main_c_11 : (⟨S_, .i32⟩ : BufTy).Contents (Elt F) :=
  constantI S_ 32 128#32
theorem val_main_c_11_apply (i : S_.Idx) :
    val_main_c_11 (F := F) i = 128#32 := rfl

-- %15 = stablehlo.add %c_10, %c_11 : tensor<i32>
def val_main_v15 : (⟨S_, .i32⟩ : BufTy).Contents (Elt F) :=
  addi (val_main_c_10 (F := F)) (val_main_c_11 (F := F))
theorem val_main_v15_apply (i : S_.Idx) :
    val_main_v15 (F := F) i = IntOp.addi (val_main_c_10 (F := F) i) (val_main_c_11 (F := F) i) := rfl

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- %16 = stablehlo.select %14, %15, %c_12 : tensor<i1>, tensor<i32>
def val_main_v16 : (⟨S_, .i32⟩ : BufTy).Contents (Elt F) :=
  select (val_main_v14 (F := F)) (val_main_v15 (F := F)) (val_main_c_12 (F := F))
theorem val_main_v16_apply (i : S_.Idx) :
    val_main_v16 (F := F) i = Scalar.select (val_main_v14 (F := F) i) (val_main_v15 (F := F) i) (val_main_c_12 (F := F) i) := rfl

-- %17 = stablehlo.dynamic_slice %0, %13, %16, sizes = [1, 128] : (tensor<200000x128xf32>, tensor<i32>, tensor<i32>) -> tensor<1x128xf32>
def val_main_v17 (x2 : (⟨S1, .i32⟩ : BufTy).Contents (Elt F)) (x3 : (⟨S1x200000x128, .f32⟩ : BufTy).Contents (Elt F)) : (⟨S1x128, .f32⟩ : BufTy).Contents (Elt F) :=
  Host.dynamicSlice S1x128 (val_main_v0 (F := F) x3) (fun k => (((![val_main_v13 (F := F) x2, val_main_v16 (F := F)] : Fin 2 → (⟨S_, .i32⟩ : BufTy).Contents (Elt F))) k (Shape.Idx.first h_S_)).toInt) sliceFits_S200000x128_S1x128

-- %18 = stablehlo.reshape %17 : (tensor<1x128xf32>) -> tensor<128xf32>
def val_main_v18 (x2 : (⟨S1, .i32⟩ : BufTy).Contents (Elt F)) (x3 : (⟨S1x200000x128, .f32⟩ : BufTy).Contents (Elt F)) : (⟨S128, .f32⟩ : BufTy).Contents (Elt F) :=
  shapeCast _ (val_main_v17 (F := F) x2 x3) shapeCasts_S1x128_S128
set_option backward.proofsInPublic true in
abbrev idx_main_v18 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v18_apply (x2 : (⟨S1, .i32⟩ : BufTy).Contents (Elt F)) (x3 : (⟨S1x200000x128, .f32⟩ : BufTy).Contents (Elt F)) (i : S128.Idx) :
    val_main_v18 (F := F) x2 x3 i = val_main_v17 (F := F) x2 x3 (idx_main_v18 i) := by
  unfold val_main_v18
  generalize val_main_v17 (F := F) x2 x3 = y
  exact shapeCast_apply y shapeCasts_S1x128_S128 i (idx_main_v18 i)
    (by rewrite [Shape.rowMajor_val_two, Shape.rowMajor_val_one]; have h0 : (i 0).val < 128 := (i 0).isLt; show 0 * 128 + ((i 0).val) % 128 = (i 0).val; omega)

-- %19 = stablehlo.concatenate %9, %18, dim = 0 : (tensor<128xf32>, tensor<128xf32>) -> tensor<256xf32>
def val_main_v19 (x1 x2 : (⟨S1, .i32⟩ : BufTy).Contents (Elt F)) (x3 : (⟨S1x200000x128, .f32⟩ : BufTy).Contents (Elt F)) : (⟨S256, .f32⟩ : BufTy).Contents (Elt F) :=
  concatenate S256 0 [⟨S128, (val_main_v9 (F := F) x1 x3)⟩, ⟨S128, (val_main_v18 (F := F) x2 x3)⟩] concatenates_S128_S128_S256_d0

-- %20 = stablehlo.reshape %19 : (tensor<256xf32>) -> tensor<256x1xf32>
def val_main_v20 (x1 x2 : (⟨S1, .i32⟩ : BufTy).Contents (Elt F)) (x3 : (⟨S1x200000x128, .f32⟩ : BufTy).Contents (Elt F)) : (⟨S256x1, .f32⟩ : BufTy).Contents (Elt F) :=
  shapeCast _ (val_main_v19 (F := F) x1 x2 x3) shapeCasts_S256_S256x1
set_option backward.proofsInPublic true in
abbrev idx_main_v20 (i : S256x1.Idx) : S256.Idx := fun a => match a with
  | ⟨0, _⟩ => ⟨(i 0).val * 1 + (i 1).val, by have h0 : (i 0).val < 256 := (i 0).isLt; have h1 : (i 1).val < 1 := (i 1).isLt; show (i 0).val * 1 + (i 1).val < 256; omega⟩
theorem val_main_v20_apply (x1 x2 : (⟨S1, .i32⟩ : BufTy).Contents (Elt F)) (x3 : (⟨S1x200000x128, .f32⟩ : BufTy).Contents (Elt F)) (i : S256x1.Idx) :
    val_main_v20 (F := F) x1 x2 x3 i = val_main_v19 (F := F) x1 x2 x3 (idx_main_v20 i) := by
  unfold val_main_v20
  generalize val_main_v19 (F := F) x1 x2 x3 = y
  exact shapeCast_apply y shapeCasts_S256_S256x1 i (idx_main_v20 i)
    (by rewrite [Shape.rowMajor_val_one, Shape.rowMajor_val_two]; have h0 : (i 0).val < 256 := (i 0).isLt; have h1 : (i 1).val < 1 := (i 1).isLt; show (i 0).val * 1 + (i 1).val = (i 0).val * 1 + (i 1).val; omega)

-- %21 = stablehlo.reshape %arg0 : (tensor<64xf32>) -> tensor<64x1xf32>
def val_main_v21 (x0 : (⟨S64, .f32⟩ : BufTy).Contents (Elt F)) : (⟨S64x1, .f32⟩ : BufTy).Contents (Elt F) :=
  shapeCast _ (x0) shapeCasts_S64_S64x1
set_option backward.proofsInPublic true in
abbrev idx_main_v21 (i : S64x1.Idx) : S64.Idx := fun a => match a with
  | ⟨0, _⟩ => ⟨(i 0).val * 1 + (i 1).val, by have h0 : (i 0).val < 64 := (i 0).isLt; have h1 : (i 1).val < 1 := (i 1).isLt; show (i 0).val * 1 + (i 1).val < 64; omega⟩
theorem val_main_v21_apply (x0 : (⟨S64, .f32⟩ : BufTy).Contents (Elt F)) (i : S64x1.Idx) :
    val_main_v21 (F := F) x0 i = x0 (idx_main_v21 i) := by
  unfold val_main_v21
  exact shapeCast_apply x0 shapeCasts_S64_S64x1 i (idx_main_v21 i)
    (by rewrite [Shape.rowMajor_val_one, Shape.rowMajor_val_two]; have h0 : (i 0).val < 64 := (i 0).isLt; have h1 : (i 1).val < 1 := (i 1).isLt; show (i 0).val * 1 + (i 1).val = (i 0).val * 1 + (i 1).val; omega)

-- %22 = stablehlo.dot_general %arg4, %21, contracting_dims = [1] x [0], precision = [DEFAULT, DEFAULT] : (tensor<256x64xf32>, tensor<64x1xf32>) -> tensor<256x1xf32>
def val_main_v22 (x0 : (⟨S64, .f32⟩ : BufTy).Contents (Elt F)) (x4 : (⟨S256x64, .f32⟩ : BufTy).Contents (Elt F)) : (⟨S256x1, .f32⟩ : BufTy).Contents (Elt F) :=
  Host.dotGeneral dot_S256x64_S64x1_S256x1_1_0_0_1_n_n none (x4) (val_main_v21 (F := F) x0)
theorem lhs_main_v22_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem lhs_main_v22_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem rhs_main_v22_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem rhs_main_v22_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl
abbrev lidx_main_v22 (i : S256x1.Idx) (k : Fin 64) : S256x64.Idx := fun a => match a with
  | ⟨0, _⟩ => ⟨(i 0).val, (i 0).isLt⟩
  | ⟨1, _⟩ => ⟨k.val, k.isLt⟩
abbrev ridx_main_v22 (i : S256x1.Idx) (k : Fin 64) : S64x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v22_apply (x0 : (⟨S64, .f32⟩ : BufTy).Contents (Elt Ideal)) (x4 : (⟨S256x64, .f32⟩ : BufTy).Contents (Elt Ideal)) (i : S256x1.Idx) :
    val_main_v22 (F := Ideal) x0 x4 i = ∑ k : Fin 64, x4 (lidx_main_v22 i k) * (val_main_v21 (F := Ideal) x0) (ridx_main_v22 i k) := by
  unfold val_main_v22
  generalize val_main_v21 (F := Ideal) x0 = y0
  simp only [Host.dotGeneral]
  rw [Ideal.dotGeneral_apply, ← Equiv.sum_comp (ValueIdx.contrEquiv1 dot_S256x64_S64x1_S256x1_1_0_0_1_n_n 64 rfl rfl).symm]
  refine Finset.sum_congr rfl fun k _ => ?_
  have hk := ValueIdx.contrEquiv1_symm_val dot_S256x64_S64x1_S256x1_1_0_0_1_n_n 64 rfl rfl k
  have el : dot_S256x64_S64x1_S256x1_1_0_0_1_n_n.lhsIdx i ((ValueIdx.contrEquiv1 dot_S256x64_S64x1_S256x1_1_0_0_1_n_n 64 rfl rfl).symm k) = lidx_main_v22 i k := funext fun a => Fin.ext (by
    match a with
    | ⟨0, _⟩ => exact lhs_main_v22_0 _ _
    | ⟨1, _⟩ => exact (lhs_main_v22_1 _ _).trans hk)
  have er : dot_S256x64_S64x1_S256x1_1_0_0_1_n_n.rhsIdx i ((ValueIdx.contrEquiv1 dot_S256x64_S64x1_S256x1_1_0_0_1_n_n 64 rfl rfl).symm k) = ridx_main_v22 i k := funext fun a => Fin.ext (by
    match a with
    | ⟨0, _⟩ => exact (rhs_main_v22_0 _ _).trans hk
    | ⟨1, _⟩ => exact rhs_main_v22_1 _ _)
  rw [el, er]

-- %23 = stablehlo.dot_general %arg7, %20, contracting_dims = [1] x [0], precision = [DEFAULT, DEFAULT] : (tensor<256x256xf32>, tensor<256x1xf32>) -> tensor<256x1xf32>
def val_main_v23 (x1 x2 : (⟨S1, .i32⟩ : BufTy).Contents (Elt F)) (x3 : (⟨S1x200000x128, .f32⟩ : BufTy).Contents (Elt F)) (x7 : (⟨S256x256, .f32⟩ : BufTy).Contents (Elt F)) : (⟨S256x1, .f32⟩ : BufTy).Contents (Elt F) :=
  Host.dotGeneral dot_S256x256_S256x1_S256x1_1_0_0_1_n_n none (x7) (val_main_v20 (F := F) x1 x2 x3)
theorem lhs_main_v23_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem lhs_main_v23_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_main_v23_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_main_v23_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl
abbrev lidx_main_v23 (i : S256x1.Idx) (k : Fin 256) : S256x256.Idx := fun a => match a with
  | ⟨0, _⟩ => ⟨(i 0).val, (i 0).isLt⟩
  | ⟨1, _⟩ => ⟨k.val, k.isLt⟩
abbrev ridx_main_v23 (i : S256x1.Idx) (k : Fin 256) : S256x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v23_apply (x1 x2 : (⟨S1, .i32⟩ : BufTy).Contents (Elt Ideal)) (x3 : (⟨S1x200000x128, .f32⟩ : BufTy).Contents (Elt Ideal)) (x7 : (⟨S256x256, .f32⟩ : BufTy).Contents (Elt Ideal)) (i : S256x1.Idx) :
    val_main_v23 (F := Ideal) x1 x2 x3 x7 i = ∑ k : Fin 256, x7 (lidx_main_v23 i k) * (val_main_v20 (F := Ideal) x1 x2 x3) (ridx_main_v23 i k) := by
  unfold val_main_v23
  generalize val_main_v20 (F := Ideal) x1 x2 x3 = y0
  simp only [Host.dotGeneral]
  rw [Ideal.dotGeneral_apply, ← Equiv.sum_comp (ValueIdx.contrEquiv1 dot_S256x256_S256x1_S256x1_1_0_0_1_n_n 256 rfl rfl).symm]
  refine Finset.sum_congr rfl fun k _ => ?_
  have hk := ValueIdx.contrEquiv1_symm_val dot_S256x256_S256x1_S256x1_1_0_0_1_n_n 256 rfl rfl k
  have el : dot_S256x256_S256x1_S256x1_1_0_0_1_n_n.lhsIdx i ((ValueIdx.contrEquiv1 dot_S256x256_S256x1_S256x1_1_0_0_1_n_n 256 rfl rfl).symm k) = lidx_main_v23 i k := funext fun a => Fin.ext (by
    match a with
    | ⟨0, _⟩ => exact lhs_main_v23_0 _ _
    | ⟨1, _⟩ => exact (lhs_main_v23_1 _ _).trans hk)
  have er : dot_S256x256_S256x1_S256x1_1_0_0_1_n_n.rhsIdx i ((ValueIdx.contrEquiv1 dot_S256x256_S256x1_S256x1_1_0_0_1_n_n 256 rfl rfl).symm k) = ridx_main_v23 i k := funext fun a => Fin.ext (by
    match a with
    | ⟨0, _⟩ => exact (rhs_main_v23_0 _ _).trans hk
    | ⟨1, _⟩ => exact rhs_main_v23_1 _ _)
  rw [el, er]

-- %24 = stablehlo.add %22, %23 : tensor<256x1xf32>
def val_main_v24 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) : (⟨S256x1, .f32⟩ : BufTy).Contents (Elt F) :=
  addf (val_main_v22 (F := F) x0 x4) (val_main_v23 (F := F) x1 x2 x3 x7)
theorem val_main_v24_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (i : S256x1.Idx) :
    val_main_v24 (F := F) x0 x1 x2 x3 x4 x7 i = FloatOps.addf (val_main_v22 (F := F) x0 x4 i) (val_main_v23 (F := F) x1 x2 x3 x7 i) := rfl

-- %25 = stablehlo.add %24, %arg10 : tensor<256x1xf32>
def val_main_v25 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  addf (val_main_v24 (F := F) x0 x1 x2 x3 x4 x7) (x10)
theorem val_main_v25_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v25 (F := F) x0 x1 x2 x3 x4 x7 x10 i = FloatOps.addf (val_main_v24 (F := F) x0 x1 x2 x3 x4 x7 i) (x10 i) := rfl

-- %26 = stablehlo.negate %25 : tensor<256x1xf32>
def val_main_v26 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  Host.negf (val_main_v25 (F := F) x0 x1 x2 x3 x4 x7 x10)
theorem val_main_v26_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v26 (F := F) x0 x1 x2 x3 x4 x7 x10 i = FloatOps.hostNegf (val_main_v25 (F := F) x0 x1 x2 x3 x4 x7 x10 i) := rfl

-- %27 = stablehlo.exponential %26 : tensor<256x1xf32>
def val_main_v27 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  Host.exp (val_main_v26 (F := F) x0 x1 x2 x3 x4 x7 x10)
theorem val_main_v27_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v27 (F := F) x0 x1 x2 x3 x4 x7 x10 i = FloatOps.hostUnary .exp (val_main_v26 (F := F) x0 x1 x2 x3 x4 x7 x10 i) := rfl

-- %cst = stablehlo.constant dense<1.000000e+00> : tensor<f32>
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

-- %28 = stablehlo.broadcast_in_dim %cst, dims = [] : (tensor<f32>) -> tensor<256x1xf32>
def val_main_v28 : (⟨S256x1, .f32⟩ : BufTy).Contents (Elt F) :=
  broadcastInDim S256x1 ![] bcast_S_S256x1 (val_main_cst (F := F))
abbrev idx_main_v28 (i : S256x1.Idx) : S_.Idx := fun a => a.elim0
theorem val_main_v28_apply (i : S256x1.Idx) :
    val_main_v28 (F := F) i = val_main_cst (F := F) (idx_main_v28 i) := by
  unfold val_main_v28
  generalize val_main_cst (F := F) = y
  exact broadcastInDim_apply _ bcast_S_S256x1 y i (idx_main_v28 i) (fun a => a.elim0)

-- %29 = stablehlo.add %28, %27 : tensor<256x1xf32>
def val_main_v29 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  addf (val_main_v28 (F := F)) (val_main_v27 (F := F) x0 x1 x2 x3 x4 x7 x10)
theorem val_main_v29_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v29 (F := F) x0 x1 x2 x3 x4 x7 x10 i = FloatOps.addf (val_main_v28 (F := F) i) (val_main_v27 (F := F) x0 x1 x2 x3 x4 x7 x10 i) := rfl

-- %cst_13 = stablehlo.constant dense<1.000000e+00> : tensor<f32>
def val_main_cst_13 : (⟨S_, .f32⟩ : BufTy).Contents (Elt F) :=
  constant S_ .f32 0x3F800000#32
theorem val_main_cst_13_apply (i : S_.Idx) :
    val_main_cst_13 (F := F) i = FloatOps.ofBits .f32 0x3F800000#32 := rfl

-- %30 = stablehlo.broadcast_in_dim %cst_13, dims = [] : (tensor<f32>) -> tensor<256x1xf32>
def val_main_v30 : (⟨S256x1, .f32⟩ : BufTy).Contents (Elt F) :=
  broadcastInDim S256x1 ![] bcast_S_S256x1 (val_main_cst_13 (F := F))
abbrev idx_main_v30 (i : S256x1.Idx) : S_.Idx := fun a => a.elim0
theorem val_main_v30_apply (i : S256x1.Idx) :
    val_main_v30 (F := F) i = val_main_cst_13 (F := F) (idx_main_v30 i) := by
  unfold val_main_v30
  generalize val_main_cst_13 (F := F) = y
  exact broadcastInDim_apply _ bcast_S_S256x1 y i (idx_main_v30 i) (fun a => a.elim0)

-- %31 = stablehlo.divide %30, %29 : tensor<256x1xf32>
def val_main_v31 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  Host.divf (val_main_v30 (F := F)) (val_main_v29 (F := F) x0 x1 x2 x3 x4 x7 x10)
theorem val_main_v31_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v31 (F := F) x0 x1 x2 x3 x4 x7 x10 i = FloatOps.hostDivf (val_main_v30 (F := F) i) (val_main_v29 (F := F) x0 x1 x2 x3 x4 x7 x10 i) := rfl

-- %32 = stablehlo.dot_general %arg5, %21, contracting_dims = [1] x [0], precision = [DEFAULT, DEFAULT] : (tensor<256x64xf32>, tensor<64x1xf32>) -> tensor<256x1xf32>
def val_main_v32 (x0 : (⟨S64, .f32⟩ : BufTy).Contents (Elt F)) (x5 : (⟨S256x64, .f32⟩ : BufTy).Contents (Elt F)) : (⟨S256x1, .f32⟩ : BufTy).Contents (Elt F) :=
  Host.dotGeneral dot_S256x64_S64x1_S256x1_1_0_0_1_n_n none (x5) (val_main_v21 (F := F) x0)
theorem lhs_main_v32_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem lhs_main_v32_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem rhs_main_v32_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem rhs_main_v32_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl
abbrev lidx_main_v32 (i : S256x1.Idx) (k : Fin 64) : S256x64.Idx := fun a => match a with
  | ⟨0, _⟩ => ⟨(i 0).val, (i 0).isLt⟩
  | ⟨1, _⟩ => ⟨k.val, k.isLt⟩
abbrev ridx_main_v32 (i : S256x1.Idx) (k : Fin 64) : S64x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v32_apply (x0 : (⟨S64, .f32⟩ : BufTy).Contents (Elt Ideal)) (x5 : (⟨S256x64, .f32⟩ : BufTy).Contents (Elt Ideal)) (i : S256x1.Idx) :
    val_main_v32 (F := Ideal) x0 x5 i = ∑ k : Fin 64, x5 (lidx_main_v32 i k) * (val_main_v21 (F := Ideal) x0) (ridx_main_v32 i k) := by
  unfold val_main_v32
  generalize val_main_v21 (F := Ideal) x0 = y0
  simp only [Host.dotGeneral]
  rw [Ideal.dotGeneral_apply, ← Equiv.sum_comp (ValueIdx.contrEquiv1 dot_S256x64_S64x1_S256x1_1_0_0_1_n_n 64 rfl rfl).symm]
  refine Finset.sum_congr rfl fun k _ => ?_
  have hk := ValueIdx.contrEquiv1_symm_val dot_S256x64_S64x1_S256x1_1_0_0_1_n_n 64 rfl rfl k
  have el : dot_S256x64_S64x1_S256x1_1_0_0_1_n_n.lhsIdx i ((ValueIdx.contrEquiv1 dot_S256x64_S64x1_S256x1_1_0_0_1_n_n 64 rfl rfl).symm k) = lidx_main_v32 i k := funext fun a => Fin.ext (by
    match a with
    | ⟨0, _⟩ => exact lhs_main_v32_0 _ _
    | ⟨1, _⟩ => exact (lhs_main_v32_1 _ _).trans hk)
  have er : dot_S256x64_S64x1_S256x1_1_0_0_1_n_n.rhsIdx i ((ValueIdx.contrEquiv1 dot_S256x64_S64x1_S256x1_1_0_0_1_n_n 64 rfl rfl).symm k) = ridx_main_v32 i k := funext fun a => Fin.ext (by
    match a with
    | ⟨0, _⟩ => exact (rhs_main_v32_0 _ _).trans hk
    | ⟨1, _⟩ => exact rhs_main_v32_1 _ _)
  rw [el, er]

-- %33 = stablehlo.dot_general %arg8, %20, contracting_dims = [1] x [0], precision = [DEFAULT, DEFAULT] : (tensor<256x256xf32>, tensor<256x1xf32>) -> tensor<256x1xf32>
def val_main_v33 (x1 x2 : (⟨S1, .i32⟩ : BufTy).Contents (Elt F)) (x3 : (⟨S1x200000x128, .f32⟩ : BufTy).Contents (Elt F)) (x8 : (⟨S256x256, .f32⟩ : BufTy).Contents (Elt F)) : (⟨S256x1, .f32⟩ : BufTy).Contents (Elt F) :=
  Host.dotGeneral dot_S256x256_S256x1_S256x1_1_0_0_1_n_n none (x8) (val_main_v20 (F := F) x1 x2 x3)
theorem lhs_main_v33_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem lhs_main_v33_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_main_v33_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_main_v33_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl
abbrev lidx_main_v33 (i : S256x1.Idx) (k : Fin 256) : S256x256.Idx := fun a => match a with
  | ⟨0, _⟩ => ⟨(i 0).val, (i 0).isLt⟩
  | ⟨1, _⟩ => ⟨k.val, k.isLt⟩
abbrev ridx_main_v33 (i : S256x1.Idx) (k : Fin 256) : S256x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v33_apply (x1 x2 : (⟨S1, .i32⟩ : BufTy).Contents (Elt Ideal)) (x3 : (⟨S1x200000x128, .f32⟩ : BufTy).Contents (Elt Ideal)) (x8 : (⟨S256x256, .f32⟩ : BufTy).Contents (Elt Ideal)) (i : S256x1.Idx) :
    val_main_v33 (F := Ideal) x1 x2 x3 x8 i = ∑ k : Fin 256, x8 (lidx_main_v33 i k) * (val_main_v20 (F := Ideal) x1 x2 x3) (ridx_main_v33 i k) := by
  unfold val_main_v33
  generalize val_main_v20 (F := Ideal) x1 x2 x3 = y0
  simp only [Host.dotGeneral]
  rw [Ideal.dotGeneral_apply, ← Equiv.sum_comp (ValueIdx.contrEquiv1 dot_S256x256_S256x1_S256x1_1_0_0_1_n_n 256 rfl rfl).symm]
  refine Finset.sum_congr rfl fun k _ => ?_
  have hk := ValueIdx.contrEquiv1_symm_val dot_S256x256_S256x1_S256x1_1_0_0_1_n_n 256 rfl rfl k
  have el : dot_S256x256_S256x1_S256x1_1_0_0_1_n_n.lhsIdx i ((ValueIdx.contrEquiv1 dot_S256x256_S256x1_S256x1_1_0_0_1_n_n 256 rfl rfl).symm k) = lidx_main_v33 i k := funext fun a => Fin.ext (by
    match a with
    | ⟨0, _⟩ => exact lhs_main_v33_0 _ _
    | ⟨1, _⟩ => exact (lhs_main_v33_1 _ _).trans hk)
  have er : dot_S256x256_S256x1_S256x1_1_0_0_1_n_n.rhsIdx i ((ValueIdx.contrEquiv1 dot_S256x256_S256x1_S256x1_1_0_0_1_n_n 256 rfl rfl).symm k) = ridx_main_v33 i k := funext fun a => Fin.ext (by
    match a with
    | ⟨0, _⟩ => exact (rhs_main_v33_0 _ _).trans hk
    | ⟨1, _⟩ => exact rhs_main_v33_1 _ _)
  rw [el, er]

-- %34 = stablehlo.add %32, %33 : tensor<256x1xf32>
def val_main_v34 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) : (⟨S256x1, .f32⟩ : BufTy).Contents (Elt F) :=
  addf (val_main_v32 (F := F) x0 x5) (val_main_v33 (F := F) x1 x2 x3 x8)
theorem val_main_v34_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (i : S256x1.Idx) :
    val_main_v34 (F := F) x0 x1 x2 x3 x5 x8 i = FloatOps.addf (val_main_v32 (F := F) x0 x5 i) (val_main_v33 (F := F) x1 x2 x3 x8 i) := rfl

-- %35 = stablehlo.subtract %34, %arg11 : tensor<256x1xf32>
def val_main_v35 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  subf (val_main_v34 (F := F) x0 x1 x2 x3 x5 x8) (x11)
theorem val_main_v35_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v35 (F := F) x0 x1 x2 x3 x5 x8 x11 i = FloatOps.subf (val_main_v34 (F := F) x0 x1 x2 x3 x5 x8 i) (x11 i) := rfl

-- %36 = stablehlo.negate %35 : tensor<256x1xf32>
def val_main_v36 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  Host.negf (val_main_v35 (F := F) x0 x1 x2 x3 x5 x8 x11)
theorem val_main_v36_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v36 (F := F) x0 x1 x2 x3 x5 x8 x11 i = FloatOps.hostNegf (val_main_v35 (F := F) x0 x1 x2 x3 x5 x8 x11 i) := rfl

-- %37 = stablehlo.exponential %36 : tensor<256x1xf32>
def val_main_v37 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  Host.exp (val_main_v36 (F := F) x0 x1 x2 x3 x5 x8 x11)
theorem val_main_v37_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v37 (F := F) x0 x1 x2 x3 x5 x8 x11 i = FloatOps.hostUnary .exp (val_main_v36 (F := F) x0 x1 x2 x3 x5 x8 x11 i) := rfl

-- %cst_14 = stablehlo.constant dense<1.000000e+00> : tensor<f32>
def val_main_cst_14 : (⟨S_, .f32⟩ : BufTy).Contents (Elt F) :=
  constant S_ .f32 0x3F800000#32
theorem val_main_cst_14_apply (i : S_.Idx) :
    val_main_cst_14 (F := F) i = FloatOps.ofBits .f32 0x3F800000#32 := rfl

-- %38 = stablehlo.broadcast_in_dim %cst_14, dims = [] : (tensor<f32>) -> tensor<256x1xf32>
def val_main_v38 : (⟨S256x1, .f32⟩ : BufTy).Contents (Elt F) :=
  broadcastInDim S256x1 ![] bcast_S_S256x1 (val_main_cst_14 (F := F))
abbrev idx_main_v38 (i : S256x1.Idx) : S_.Idx := fun a => a.elim0
theorem val_main_v38_apply (i : S256x1.Idx) :
    val_main_v38 (F := F) i = val_main_cst_14 (F := F) (idx_main_v38 i) := by
  unfold val_main_v38
  generalize val_main_cst_14 (F := F) = y
  exact broadcastInDim_apply _ bcast_S_S256x1 y i (idx_main_v38 i) (fun a => a.elim0)

-- %39 = stablehlo.add %38, %37 : tensor<256x1xf32>
def val_main_v39 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  addf (val_main_v38 (F := F)) (val_main_v37 (F := F) x0 x1 x2 x3 x5 x8 x11)
theorem val_main_v39_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v39 (F := F) x0 x1 x2 x3 x5 x8 x11 i = FloatOps.addf (val_main_v38 (F := F) i) (val_main_v37 (F := F) x0 x1 x2 x3 x5 x8 x11 i) := rfl

-- %cst_15 = stablehlo.constant dense<1.000000e+00> : tensor<f32>
def val_main_cst_15 : (⟨S_, .f32⟩ : BufTy).Contents (Elt F) :=
  constant S_ .f32 0x3F800000#32
theorem val_main_cst_15_apply (i : S_.Idx) :
    val_main_cst_15 (F := F) i = FloatOps.ofBits .f32 0x3F800000#32 := rfl

-- %40 = stablehlo.broadcast_in_dim %cst_15, dims = [] : (tensor<f32>) -> tensor<256x1xf32>
def val_main_v40 : (⟨S256x1, .f32⟩ : BufTy).Contents (Elt F) :=
  broadcastInDim S256x1 ![] bcast_S_S256x1 (val_main_cst_15 (F := F))
abbrev idx_main_v40 (i : S256x1.Idx) : S_.Idx := fun a => a.elim0
theorem val_main_v40_apply (i : S256x1.Idx) :
    val_main_v40 (F := F) i = val_main_cst_15 (F := F) (idx_main_v40 i) := by
  unfold val_main_v40
  generalize val_main_cst_15 (F := F) = y
  exact broadcastInDim_apply _ bcast_S_S256x1 y i (idx_main_v40 i) (fun a => a.elim0)

-- %41 = stablehlo.divide %40, %39 : tensor<256x1xf32>
def val_main_v41 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  Host.divf (val_main_v40 (F := F)) (val_main_v39 (F := F) x0 x1 x2 x3 x5 x8 x11)
theorem val_main_v41_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v41 (F := F) x0 x1 x2 x3 x5 x8 x11 i = FloatOps.hostDivf (val_main_v40 (F := F) i) (val_main_v39 (F := F) x0 x1 x2 x3 x5 x8 x11 i) := rfl

-- %42 = stablehlo.dot_general %arg6, %21, contracting_dims = [1] x [0], precision = [DEFAULT, DEFAULT] : (tensor<256x64xf32>, tensor<64x1xf32>) -> tensor<256x1xf32>
def val_main_v42 (x0 : (⟨S64, .f32⟩ : BufTy).Contents (Elt F)) (x6 : (⟨S256x64, .f32⟩ : BufTy).Contents (Elt F)) : (⟨S256x1, .f32⟩ : BufTy).Contents (Elt F) :=
  Host.dotGeneral dot_S256x64_S64x1_S256x1_1_0_0_1_n_n none (x6) (val_main_v21 (F := F) x0)
theorem lhs_main_v42_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem lhs_main_v42_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem rhs_main_v42_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem rhs_main_v42_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl
abbrev lidx_main_v42 (i : S256x1.Idx) (k : Fin 64) : S256x64.Idx := fun a => match a with
  | ⟨0, _⟩ => ⟨(i 0).val, (i 0).isLt⟩
  | ⟨1, _⟩ => ⟨k.val, k.isLt⟩
abbrev ridx_main_v42 (i : S256x1.Idx) (k : Fin 64) : S64x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v42_apply (x0 : (⟨S64, .f32⟩ : BufTy).Contents (Elt Ideal)) (x6 : (⟨S256x64, .f32⟩ : BufTy).Contents (Elt Ideal)) (i : S256x1.Idx) :
    val_main_v42 (F := Ideal) x0 x6 i = ∑ k : Fin 64, x6 (lidx_main_v42 i k) * (val_main_v21 (F := Ideal) x0) (ridx_main_v42 i k) := by
  unfold val_main_v42
  generalize val_main_v21 (F := Ideal) x0 = y0
  simp only [Host.dotGeneral]
  rw [Ideal.dotGeneral_apply, ← Equiv.sum_comp (ValueIdx.contrEquiv1 dot_S256x64_S64x1_S256x1_1_0_0_1_n_n 64 rfl rfl).symm]
  refine Finset.sum_congr rfl fun k _ => ?_
  have hk := ValueIdx.contrEquiv1_symm_val dot_S256x64_S64x1_S256x1_1_0_0_1_n_n 64 rfl rfl k
  have el : dot_S256x64_S64x1_S256x1_1_0_0_1_n_n.lhsIdx i ((ValueIdx.contrEquiv1 dot_S256x64_S64x1_S256x1_1_0_0_1_n_n 64 rfl rfl).symm k) = lidx_main_v42 i k := funext fun a => Fin.ext (by
    match a with
    | ⟨0, _⟩ => exact lhs_main_v42_0 _ _
    | ⟨1, _⟩ => exact (lhs_main_v42_1 _ _).trans hk)
  have er : dot_S256x64_S64x1_S256x1_1_0_0_1_n_n.rhsIdx i ((ValueIdx.contrEquiv1 dot_S256x64_S64x1_S256x1_1_0_0_1_n_n 64 rfl rfl).symm k) = ridx_main_v42 i k := funext fun a => Fin.ext (by
    match a with
    | ⟨0, _⟩ => exact (rhs_main_v42_0 _ _).trans hk
    | ⟨1, _⟩ => exact rhs_main_v42_1 _ _)
  rw [el, er]

-- %43 = stablehlo.multiply %41, %20 : tensor<256x1xf32>
def val_main_v43 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) : (⟨S256x1, .f32⟩ : BufTy).Contents (Elt F) :=
  mulf (val_main_v41 (F := F) x0 x1 x2 x3 x5 x8 x11) (val_main_v20 (F := F) x1 x2 x3)
theorem val_main_v43_apply (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 : (⟨S256x256, .f32⟩ : BufTy).Contents (Elt F)) (x11 : (⟨S256x1, .f32⟩ : BufTy).Contents (Elt F)) (i : S256x1.Idx) :
    val_main_v43 (F := F) x0 x1 x2 x3 x5 x8 x11 i = FloatOps.mulf (val_main_v41 (F := F) x0 x1 x2 x3 x5 x8 x11 i) (val_main_v20 (F := F) x1 x2 x3 i) := rfl

-- %44 = stablehlo.dot_general %arg9, %43, contracting_dims = [1] x [0], precision = [DEFAULT, DEFAULT] : (tensor<256x256xf32>, tensor<256x1xf32>) -> tensor<256x1xf32>
def val_main_v44 (x0 : (⟨S64, .f32⟩ : BufTy).Contents (Elt F)) (x1 x2 : (⟨S1, .i32⟩ : BufTy).Contents (Elt F)) (x3 : (⟨S1x200000x128, .f32⟩ : BufTy).Contents (Elt F)) (x5 : (⟨S256x64, .f32⟩ : BufTy).Contents (Elt F)) (x8 x9 : (⟨S256x256, .f32⟩ : BufTy).Contents (Elt F)) (x11 : (⟨S256x1, .f32⟩ : BufTy).Contents (Elt F)) : (⟨S256x1, .f32⟩ : BufTy).Contents (Elt F) :=
  Host.dotGeneral dot_S256x256_S256x1_S256x1_1_0_0_1_n_n none (x9) (val_main_v43 (F := F) x0 x1 x2 x3 x5 x8 x11)
theorem lhs_main_v44_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
theorem lhs_main_v44_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_main_v44_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_main_v44_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl
abbrev lidx_main_v44 (i : S256x1.Idx) (k : Fin 256) : S256x256.Idx := fun a => match a with
  | ⟨0, _⟩ => ⟨(i 0).val, (i 0).isLt⟩
  | ⟨1, _⟩ => ⟨k.val, k.isLt⟩
abbrev ridx_main_v44 (i : S256x1.Idx) (k : Fin 256) : S256x1.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v44_apply (x0 : (⟨S64, .f32⟩ : BufTy).Contents (Elt Ideal)) (x1 x2 : (⟨S1, .i32⟩ : BufTy).Contents (Elt Ideal)) (x3 : (⟨S1x200000x128, .f32⟩ : BufTy).Contents (Elt Ideal)) (x5 : (⟨S256x64, .f32⟩ : BufTy).Contents (Elt Ideal)) (x8 x9 : (⟨S256x256, .f32⟩ : BufTy).Contents (Elt Ideal)) (x11 : (⟨S256x1, .f32⟩ : BufTy).Contents (Elt Ideal)) (i : S256x1.Idx) :
    val_main_v44 (F := Ideal) x0 x1 x2 x3 x5 x8 x9 x11 i = ∑ k : Fin 256, x9 (lidx_main_v44 i k) * (val_main_v43 (F := Ideal) x0 x1 x2 x3 x5 x8 x11) (ridx_main_v44 i k) := by
  unfold val_main_v44
  generalize val_main_v43 (F := Ideal) x0 x1 x2 x3 x5 x8 x11 = y0
  simp only [Host.dotGeneral]
  rw [Ideal.dotGeneral_apply, ← Equiv.sum_comp (ValueIdx.contrEquiv1 dot_S256x256_S256x1_S256x1_1_0_0_1_n_n 256 rfl rfl).symm]
  refine Finset.sum_congr rfl fun k _ => ?_
  have hk := ValueIdx.contrEquiv1_symm_val dot_S256x256_S256x1_S256x1_1_0_0_1_n_n 256 rfl rfl k
  have el : dot_S256x256_S256x1_S256x1_1_0_0_1_n_n.lhsIdx i ((ValueIdx.contrEquiv1 dot_S256x256_S256x1_S256x1_1_0_0_1_n_n 256 rfl rfl).symm k) = lidx_main_v44 i k := funext fun a => Fin.ext (by
    match a with
    | ⟨0, _⟩ => exact lhs_main_v44_0 _ _
    | ⟨1, _⟩ => exact (lhs_main_v44_1 _ _).trans hk)
  have er : dot_S256x256_S256x1_S256x1_1_0_0_1_n_n.rhsIdx i ((ValueIdx.contrEquiv1 dot_S256x256_S256x1_S256x1_1_0_0_1_n_n 256 rfl rfl).symm k) = ridx_main_v44 i k := funext fun a => Fin.ext (by
    match a with
    | ⟨0, _⟩ => exact (rhs_main_v44_0 _ _).trans hk
    | ⟨1, _⟩ => exact rhs_main_v44_1 _ _)
  rw [el, er]

-- %45 = stablehlo.add %42, %44 : tensor<256x1xf32>
def val_main_v45 (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 : (⟨S256x1, .f32⟩ : BufTy).Contents (Elt F)) : (⟨S256x1, .f32⟩ : BufTy).Contents (Elt F) :=
  addf (val_main_v42 (F := F) x0 x6) (val_main_v44 (F := F) x0 x1 x2 x3 x5 x8 x9 x11)
theorem val_main_v45_apply (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 : (⟨S256x1, .f32⟩ : BufTy).Contents (Elt F)) (i : S256x1.Idx) :
    val_main_v45 (F := F) x0 x1 x2 x3 x5 x6 x8 x9 x11 i = FloatOps.addf (val_main_v42 (F := F) x0 x6 i) (val_main_v44 (F := F) x0 x1 x2 x3 x5 x8 x9 x11 i) := rfl

-- %46 = stablehlo.add %45, %arg12 : tensor<256x1xf32>
def val_main_v46 (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 x12 : (⟨S256x1, .f32⟩ : BufTy).Contents (Elt F)) : (⟨S256x1, .f32⟩ : BufTy).Contents (Elt F) :=
  addf (val_main_v45 (F := F) x0 x1 x2 x3 x5 x6 x8 x9 x11) (x12)
theorem val_main_v46_apply (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 x12 : (⟨S256x1, .f32⟩ : BufTy).Contents (Elt F)) (i : S256x1.Idx) :
    val_main_v46 (F := F) x0 x1 x2 x3 x5 x6 x8 x9 x11 x12 i = FloatOps.addf (val_main_v45 (F := F) x0 x1 x2 x3 x5 x6 x8 x9 x11 i) (x12 i) := rfl

-- %47 = stablehlo.tanh %46 : tensor<256x1xf32>
def val_main_v47 (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 x12 : (⟨S256x1, .f32⟩ : BufTy).Contents (Elt F)) : (⟨S256x1, .f32⟩ : BufTy).Contents (Elt F) :=
  Host.tanh (val_main_v46 (F := F) x0 x1 x2 x3 x5 x6 x8 x9 x11 x12)
theorem val_main_v47_apply (x0 : (⟨S64, .f32⟩ : BufTy).Contents (Elt F)) (x1 x2 : (⟨S1, .i32⟩ : BufTy).Contents (Elt F)) (x3 : (⟨S1x200000x128, .f32⟩ : BufTy).Contents (Elt F)) (x5 x6 : (⟨S256x64, .f32⟩ : BufTy).Contents (Elt F)) (x8 x9 : (⟨S256x256, .f32⟩ : BufTy).Contents (Elt F)) (x11 x12 : (⟨S256x1, .f32⟩ : BufTy).Contents (Elt F)) (i : S256x1.Idx) :
    val_main_v47 (F := F) x0 x1 x2 x3 x5 x6 x8 x9 x11 x12 i = FloatOps.hostUnary .tanh (val_main_v46 (F := F) x0 x1 x2 x3 x5 x6 x8 x9 x11 x12 i) := rfl

-- %48 = stablehlo.multiply %31, %20 : tensor<256x1xf32>
def val_main_v48 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  mulf (val_main_v31 (F := F) x0 x1 x2 x3 x4 x7 x10) (val_main_v20 (F := F) x1 x2 x3)
theorem val_main_v48_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v48 (F := F) x0 x1 x2 x3 x4 x7 x10 i = FloatOps.mulf (val_main_v31 (F := F) x0 x1 x2 x3 x4 x7 x10 i) (val_main_v20 (F := F) x1 x2 x3 i) := rfl

-- %cst_16 = stablehlo.constant dense<1.000000e+00> : tensor<f32>
def val_main_cst_16 : (⟨S_, .f32⟩ : BufTy).Contents (Elt F) :=
  constant S_ .f32 0x3F800000#32
theorem val_main_cst_16_apply (i : S_.Idx) :
    val_main_cst_16 (F := F) i = FloatOps.ofBits .f32 0x3F800000#32 := rfl

-- %49 = stablehlo.broadcast_in_dim %cst_16, dims = [] : (tensor<f32>) -> tensor<256x1xf32>
def val_main_v49 : (⟨S256x1, .f32⟩ : BufTy).Contents (Elt F) :=
  broadcastInDim S256x1 ![] bcast_S_S256x1 (val_main_cst_16 (F := F))
abbrev idx_main_v49 (i : S256x1.Idx) : S_.Idx := fun a => a.elim0
theorem val_main_v49_apply (i : S256x1.Idx) :
    val_main_v49 (F := F) i = val_main_cst_16 (F := F) (idx_main_v49 i) := by
  unfold val_main_v49
  generalize val_main_cst_16 (F := F) = y
  exact broadcastInDim_apply _ bcast_S_S256x1 y i (idx_main_v49 i) (fun a => a.elim0)

-- %50 = stablehlo.subtract %49, %31 : tensor<256x1xf32>
def val_main_v50 (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) : (⟨S256x1, .f32⟩ : BufTy).Contents (Elt F) :=
  subf (val_main_v49 (F := F)) (val_main_v31 (F := F) x0 x1 x2 x3 x4 x7 x10)
theorem val_main_v50_apply (x0 : (⟨S64, .f32⟩ : BufTy).Contents (Elt F)) (x1 x2 : (⟨S1, .i32⟩ : BufTy).Contents (Elt F)) (x3 : (⟨S1x200000x128, .f32⟩ : BufTy).Contents (Elt F)) (x4 : (⟨S256x64, .f32⟩ : BufTy).Contents (Elt F)) (x7 : (⟨S256x256, .f32⟩ : BufTy).Contents (Elt F)) (x10 : (⟨S256x1, .f32⟩ : BufTy).Contents (Elt F)) (i : S256x1.Idx) :
    val_main_v50 (F := F) x0 x1 x2 x3 x4 x7 x10 i = FloatOps.subf (val_main_v49 (F := F) i) (val_main_v31 (F := F) x0 x1 x2 x3 x4 x7 x10 i) := rfl

-- %51 = stablehlo.multiply %50, %47 : tensor<256x1xf32>
def val_main_v51 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S256x1, .f32⟩ : BufTy).Contents (Elt F) :=
  mulf (val_main_v50 (F := F) x0 x1 x2 x3 x4 x7 x10) (val_main_v47 (F := F) x0 x1 x2 x3 x5 x6 x8 x9 x11 x12)
theorem val_main_v51_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S256x1.Idx) :
    val_main_v51 (F := F) x0 x1 x2 x3 x4 x5 x6 x7 x8 x9 x10 x11 x12 i = FloatOps.mulf (val_main_v50 (F := F) x0 x1 x2 x3 x4 x7 x10 i) (val_main_v47 (F := F) x0 x1 x2 x3 x5 x6 x8 x9 x11 x12 i) := rfl

-- %52 = stablehlo.add %48, %51 : tensor<256x1xf32>
def val_main_v52 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S256x1, .f32⟩ : BufTy).Contents (Elt F) :=
  addf (val_main_v48 (F := F) x0 x1 x2 x3 x4 x7 x10) (val_main_v51 (F := F) x0 x1 x2 x3 x4 x5 x6 x7 x8 x9 x10 x11 x12)
theorem val_main_v52_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S256x1.Idx) :
    val_main_v52 (F := F) x0 x1 x2 x3 x4 x5 x6 x7 x8 x9 x10 x11 x12 i = FloatOps.addf (val_main_v48 (F := F) x0 x1 x2 x3 x4 x7 x10 i) (val_main_v51 (F := F) x0 x1 x2 x3 x4 x5 x6 x7 x8 x9 x10 x11 x12 i) := rfl

-- %53 = stablehlo.subtract %52, %20 : tensor<256x1xf32>
def val_main_v53 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S256x1, .f32⟩ : BufTy).Contents (Elt F) :=
  subf (val_main_v52 (F := F) x0 x1 x2 x3 x4 x5 x6 x7 x8 x9 x10 x11 x12) (val_main_v20 (F := F) x1 x2 x3)
theorem val_main_v53_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S256x1.Idx) :
    val_main_v53 (F := F) x0 x1 x2 x3 x4 x5 x6 x7 x8 x9 x10 x11 x12 i = FloatOps.subf (val_main_v52 (F := F) x0 x1 x2 x3 x4 x5 x6 x7 x8 x9 x10 x11 x12 i) (val_main_v20 (F := F) x1 x2 x3 i) := rfl

-- %54 = stablehlo.reshape %53 : (tensor<256x1xf32>) -> tensor<2x128xf32>
def val_main_v54 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S2x128, .f32⟩ : BufTy).Contents (Elt F) :=
  shapeCast _ (val_main_v53 (F := F) x0 x1 x2 x3 x4 x5 x6 x7 x8 x9 x10 x11 x12) shapeCasts_S256x1_S2x128
set_option backward.proofsInPublic true in
abbrev idx_main_v54 (i : S2x128.Idx) : S256x1.Idx := fun a => match a with
  | ⟨0, _⟩ => ⟨((i 0).val * 128 + (i 1).val) / 1, by have h0 : (i 0).val < 2 := (i 0).isLt; have h1 : (i 1).val < 128 := (i 1).isLt; show ((i 0).val * 128 + (i 1).val) / 1 < 256; omega⟩
  | ⟨1, _⟩ => ⟨0, Nat.one_pos⟩
theorem val_main_v54_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S2x128.Idx) :
    val_main_v54 (F := F) x0 x1 x2 x3 x4 x5 x6 x7 x8 x9 x10 x11 x12 i = val_main_v53 (F := F) x0 x1 x2 x3 x4 x5 x6 x7 x8 x9 x10 x11 x12 (idx_main_v54 i) := by
  unfold val_main_v54
  generalize val_main_v53 (F := F) x0 x1 x2 x3 x4 x5 x6 x7 x8 x9 x10 x11 x12 = y
  exact shapeCast_apply y shapeCasts_S256x1_S2x128 i (idx_main_v54 i)
    (by rewrite [Shape.rowMajor_val_two, Shape.rowMajor_val_two]; have h0 : (i 0).val < 2 := (i 0).isLt; have h1 : (i 1).val < 128 := (i 1).isLt; show ((i 0).val * 128 + (i 1).val) / 1 * 1 + 0 = (i 0).val * 128 + (i 1).val; omega)

-- %55 = stablehlo.reshape %arg1 : (tensor<1xi32>) -> tensor<i32>
def val_main_v55 (x1 : (⟨S1, .i32⟩ : BufTy).Contents (Elt F)) : (⟨S_, .i32⟩ : BufTy).Contents (Elt F) :=
  shapeCast _ (x1) shapeCasts_S1_S_

-- %56 = stablehlo.reshape %arg2 : (tensor<1xi32>) -> tensor<i32>
def val_main_v56 (x2 : (⟨S1, .i32⟩ : BufTy).Contents (Elt F)) : (⟨S_, .i32⟩ : BufTy).Contents (Elt F) :=
  shapeCast _ (x2) shapeCasts_S1_S_

-- %57 = stablehlo.broadcast_in_dim %55, dims = [] : (tensor<i32>) -> tensor<1xi32>
def val_main_v57 (x1 : (⟨S1, .i32⟩ : BufTy).Contents (Elt F)) : (⟨S1, .i32⟩ : BufTy).Contents (Elt F) :=
  broadcastInDim S1 ![] bcast_S_S1 (val_main_v55 (F := F) x1)
abbrev idx_main_v57 (i : S1.Idx) : S_.Idx := fun a => a.elim0
theorem val_main_v57_apply (x1 : (⟨S1, .i32⟩ : BufTy).Contents (Elt F)) (i : S1.Idx) :
    val_main_v57 (F := F) x1 i = val_main_v55 (F := F) x1 (idx_main_v57 i) := by
  unfold val_main_v57
  generalize val_main_v55 (F := F) x1 = y
  exact broadcastInDim_apply _ bcast_S_S1 y i (idx_main_v57 i) (fun a => a.elim0)

-- %58 = stablehlo.broadcast_in_dim %56, dims = [] : (tensor<i32>) -> tensor<1xi32>
def val_main_v58 (x2 : (⟨S1, .i32⟩ : BufTy).Contents (Elt F)) : (⟨S1, .i32⟩ : BufTy).Contents (Elt F) :=
  broadcastInDim S1 ![] bcast_S_S1 (val_main_v56 (F := F) x2)
abbrev idx_main_v58 (i : S1.Idx) : S_.Idx := fun a => a.elim0
theorem val_main_v58_apply (x2 : (⟨S1, .i32⟩ : BufTy).Contents (Elt F)) (i : S1.Idx) :
    val_main_v58 (F := F) x2 i = val_main_v56 (F := F) x2 (idx_main_v58 i) := by
  unfold val_main_v58
  generalize val_main_v56 (F := F) x2 = y
  exact broadcastInDim_apply _ bcast_S_S1 y i (idx_main_v58 i) (fun a => a.elim0)

-- %59 = stablehlo.concatenate %57, %58, dim = 0 : (tensor<1xi32>, tensor<1xi32>) -> tensor<2xi32>
def val_main_v59 (x1 x2 : (⟨S1, .i32⟩ : BufTy).Contents (Elt F)) : (⟨S2, .i32⟩ : BufTy).Contents (Elt F) :=
  concatenate S2 0 [⟨S1, (val_main_v57 (F := F) x1)⟩, ⟨S1, (val_main_v58 (F := F) x2)⟩] concatenates_S1_S1_S2_d0

-- %cst_17 = stablehlo.constant dense<0.000000e+00> : tensor<f32>
def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

-- %60 = stablehlo.broadcast_in_dim %cst_17, dims = [] : (tensor<f32>) -> tensor<200000x128xf32>
def val_main_v60 : (⟨S200000x128, .f32⟩ : BufTy).Contents (Elt F) :=
  broadcastInDim S200000x128 ![] bcast_S_S200000x128 (val_main_cst_17 (F := F))
abbrev idx_main_v60 (i : S200000x128.Idx) : S_.Idx := fun a => a.elim0
theorem val_main_v60_apply (i : S200000x128.Idx) :
    val_main_v60 (F := F) i = val_main_cst_17 (F := F) (idx_main_v60 i) := by
  unfold val_main_v60
  generalize val_main_cst_17 (F := F) = y
  exact broadcastInDim_apply _ bcast_S_S200000x128 y i (idx_main_v60 i) (fun a => a.elim0)

-- %c_18 = stablehlo.constant dense<0> : tensor<i32>
def val_main_c_18 : (⟨S_, .i32⟩ : BufTy).Contents (Elt F) :=
  constantI S_ 32 0#32
theorem val_main_c_18_apply (i : S_.Idx) :
    val_main_c_18 (F := F) i = 0#32 := rfl

-- %61 = stablehlo.broadcast_in_dim %c_18, dims = [] : (tensor<i32>) -> tensor<2xi32>
def val_main_v61 : (⟨S2, .i32⟩ : BufTy).Contents (Elt F) :=
  broadcastInDim S2 ![] bcast_S_S2 (val_main_c_18 (F := F))
abbrev idx_main_v61 (i : S2.Idx) : S_.Idx := fun a => a.elim0
theorem val_main_v61_apply (i : S2.Idx) :
    val_main_v61 (F := F) i = val_main_c_18 (F := F) (idx_main_v61 i) := by
  unfold val_main_v61
  generalize val_main_c_18 (F := F) = y
  exact broadcastInDim_apply _ bcast_S_S2 y i (idx_main_v61 i) (fun a => a.elim0)

-- %62 = stablehlo.compare LT, %59, %61, SIGNED : (tensor<2xi32>, tensor<2xi32>) -> tensor<2xi1>
def val_main_v62 (x1 x2 : (⟨S1, .i32⟩ : BufTy).Contents (Elt F)) : (⟨S2, .i1⟩ : BufTy).Contents (Elt F) :=
  cmpi .slt (val_main_v59 (F := F) x1 x2) (val_main_v61 (F := F))
theorem val_main_v62_apply (x1 x2 : (⟨S1, .i32⟩ : BufTy).Contents (Elt F)) (i : S2.Idx) :
    val_main_v62 (F := F) x1 x2 i = IntOp.cmpi .slt (val_main_v59 (F := F) x1 x2 i) (val_main_v61 (F := F) i) := rfl

-- %c_19 = stablehlo.constant dense<200000> : tensor<i32>
def val_main_c_19 : (⟨S_, .i32⟩ : BufTy).Contents (Elt F) :=
  constantI S_ 32 200000#32
theorem val_main_c_19_apply (i : S_.Idx) :
    val_main_c_19 (F := F) i = 200000#32 := rfl

-- %63 = stablehlo.broadcast_in_dim %c_19, dims = [] : (tensor<i32>) -> tensor<2xi32>
def val_main_v63 : (⟨S2, .i32⟩ : BufTy).Contents (Elt F) :=
  broadcastInDim S2 ![] bcast_S_S2 (val_main_c_19 (F := F))
abbrev idx_main_v63 (i : S2.Idx) : S_.Idx := fun a => a.elim0
theorem val_main_v63_apply (i : S2.Idx) :
    val_main_v63 (F := F) i = val_main_c_19 (F := F) (idx_main_v63 i) := by
  unfold val_main_v63
  generalize val_main_c_19 (F := F) = y
  exact broadcastInDim_apply _ bcast_S_S2 y i (idx_main_v63 i) (fun a => a.elim0)

-- %64 = stablehlo.add %59, %63 : tensor<2xi32>
def val_main_v64 (x1 x2 : (⟨S1, .i32⟩ : BufTy).Contents (Elt F)) : (⟨S2, .i32⟩ : BufTy).Contents (Elt F) :=
  addi (val_main_v59 (F := F) x1 x2) (val_main_v63 (F := F))
theorem val_main_v64_apply (x1 x2 : (⟨S1, .i32⟩ : BufTy).Contents (Elt F)) (i : S2.Idx) :
    val_main_v64 (F := F) x1 x2 i = IntOp.addi (val_main_v59 (F := F) x1 x2 i) (val_main_v63 (F := F) i) := rfl

-- %65 = stablehlo.select %62, %64, %59 : tensor<2xi1>, tensor<2xi32>
def val_main_v65 (x1 x2 : (⟨S1, .i32⟩ : BufTy).Contents (Elt F)) : (⟨S2, .i32⟩ : BufTy).Contents (Elt F) :=
  select (val_main_v62 (F := F) x1 x2) (val_main_v64 (F := F) x1 x2) (val_main_v59 (F := F) x1 x2)
theorem val_main_v65_apply (x1 x2 : (⟨S1, .i32⟩ : BufTy).Contents (Elt F)) (i : S2.Idx) :
    val_main_v65 (F := F) x1 x2 i = Scalar.select (val_main_v62 (F := F) x1 x2 i) (val_main_v64 (F := F) x1 x2 i) (val_main_v59 (F := F) x1 x2 i) := rfl

-- %66 = stablehlo.broadcast_in_dim %65, dims = [0] : (tensor<2xi32>) -> tensor<2x1xi32>
def val_main_v66 (x1 x2 : (⟨S1, .i32⟩ : BufTy).Contents (Elt F)) : (⟨S2x1, .i32⟩ : BufTy).Contents (Elt F) :=
  broadcastInDim S2x1 ![0] bcast_S2_S2x1_0 (val_main_v65 (F := F) x1 x2)
abbrev idx_main_v66 (i : S2x1.Idx) : S2.Idx := fun a => match a with
  | ⟨0, _⟩ => ⟨(i 0).val, (i 0).isLt⟩
theorem val_main_v66_apply (x1 x2 : (⟨S1, .i32⟩ : BufTy).Contents (Elt F)) (i : S2x1.Idx) :
    val_main_v66 (F := F) x1 x2 i = val_main_v65 (F := F) x1 x2 (idx_main_v66 i) := by
  unfold val_main_v66
  generalize val_main_v65 (F := F) x1 x2 = y
  exact broadcastInDim_apply _ bcast_S2_S2x1_0 y i (idx_main_v66 i) (fun a => match a with
    | ⟨0, _⟩ => by show (i 0).val = if (2 : Nat) = 1 then 0 else (i 0).val; rw [if_neg (by decide)])

-- %67 = "stablehlo.scatter"(%60, %66, %54) <{indices_are_sorted = false, scatter_dimension_numbers = #stablehlo.scatter<update_window_dims = [1], inserted_window_dims = [0], scatter_dims_to_operand_dims = [0], index_vector_dim = 1>, unique_indices = false}> ( {
def val_main_v67 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S200000x128, .f32⟩ : BufTy).Contents (Elt F) :=
  Host.scatterAdd scatter_S200000x128_S2x1_S2x128_1_0_0_1 (val_main_v60 (F := F)) (val_main_v66 (F := F) x1 x2) (val_main_v54 (F := F) x0 x1 x2 x3 x4 x5 x6 x7 x8 x9 x10 x11 x12)

-- %68 = stablehlo.add %0, %67 : tensor<200000x128xf32>
def val_main_v68 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S200000x128, .f32⟩ : BufTy).Contents (Elt F) :=
  addf (val_main_v0 (F := F) x3) (val_main_v67 (F := F) x0 x1 x2 x3 x4 x5 x6 x7 x8 x9 x10 x11 x12)
theorem val_main_v68_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S200000x128.Idx) :
    val_main_v68 (F := F) x0 x1 x2 x3 x4 x5 x6 x7 x8 x9 x10 x11 x12 i = FloatOps.addf (val_main_v0 (F := F) x3 i) (val_main_v67 (F := F) x0 x1 x2 x3 x4 x5 x6 x7 x8 x9 x10 x11 x12 i) := rfl

-- %69 = stablehlo.reshape %68 : (tensor<200000x128xf32>) -> tensor<1x200000x128xf32>
def val_main_v69 (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) : (⟨S1x200000x128, .f32⟩ : BufTy).Contents (Elt F) :=
  shapeCast _ (val_main_v68 (F := F) x0 x1 x2 x3 x4 x5 x6 x7 x8 x9 x10 x11 x12) shapeCasts_S200000x128_S1x200000x128
set_option backward.proofsInPublic true in
abbrev idx_main_v69 (i : S1x200000x128.Idx) : S200000x128.Idx := fun a => match a with
  | ⟨0, _⟩ => ⟨(((i 0).val * 200000 + (i 1).val) * 128 + (i 2).val) / 128, by have h0 : (i 0).val < 1 := (i 0).isLt; have h1 : (i 1).val < 200000 := (i 1).isLt; have h2 : (i 2).val < 128 := (i 2).isLt; show (((i 0).val * 200000 + (i 1).val) * 128 + (i 2).val) / 128 < 200000; omega⟩
  | ⟨1, _⟩ => ⟨(((i 0).val * 200000 + (i 1).val) * 128 + (i 2).val) % 128, by have h0 : (i 0).val < 1 := (i 0).isLt; have h1 : (i 1).val < 200000 := (i 1).isLt; have h2 : (i 2).val < 128 := (i 2).isLt; show (((i 0).val * 200000 + (i 1).val) * 128 + (i 2).val) % 128 < 128; omega⟩
theorem val_main_v69_apply (x0 : (⟨S64, .f32⟩ : BufTy).Contents (Elt F)) (x1 x2 : (⟨S1, .i32⟩ : BufTy).Contents (Elt F)) (x3 : (⟨S1x200000x128, .f32⟩ : BufTy).Contents (Elt F)) (x4 x5 x6 : (⟨S256x64, .f32⟩ : BufTy).Contents (Elt F)) (x7 x8 x9 : (⟨S256x256, .f32⟩ : BufTy).Contents (Elt F)) (x10 x11 x12 : (⟨S256x1, .f32⟩ : BufTy).Contents (Elt F)) (i : S1x200000x128.Idx) :
    val_main_v69 (F := F) x0 x1 x2 x3 x4 x5 x6 x7 x8 x9 x10 x11 x12 i = val_main_v68 (F := F) x0 x1 x2 x3 x4 x5 x6 x7 x8 x9 x10 x11 x12 (idx_main_v69 i) := by
  unfold val_main_v69
  generalize val_main_v68 (F := F) x0 x1 x2 x3 x4 x5 x6 x7 x8 x9 x10 x11 x12 = y
  exact shapeCast_apply y shapeCasts_S200000x128_S1x200000x128 i (idx_main_v69 i)
    (by rewrite [Shape.rowMajor_val_two, Shape.rowMajor_val_three]; have h0 : (i 0).val < 1 := (i 0).isLt; have h1 : (i 1).val < 200000 := (i 1).isLt; have h2 : (i 2).val < 128 := (i 2).isLt; show (((i 0).val * 200000 + (i 1).val) * 128 + (i 2).val) / 128 * 128 + (((i 0).val * 200000 + (i 1).val) * 128 + (i 2).val) % 128 = ((i 0).val * 200000 + (i 1).val) * 128 + (i 2).val; omega)

end Cert.ReferenceIdeal.Gru

end
-- ==== Proof.ReferenceIdeal.Parts.lean ====
/- The reference program as a line of operations cut in parts, and what each part leaves. -/
module

public import proofs.«01_k».proof.Proof.ReferenceIdeal.Read
public import Idealize.ShloMosaic.Lib.StableHlo.RunRead
public import Idealize.ShloMosaic.Lib.Pipeline.Frame
public import Idealize.ShloMosaic.Lib.Quiescent

@[expose] public section

set_option maxRecDepth 16384

noncomputable section

namespace Cert.ReferenceIdeal.Gru

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v19`: the two operands laid end to end. -/
def fn_main_v19 : (⟨S128, .f32⟩ : BufTy).Contents (Elt F) → (⟨S128, .f32⟩ : BufTy).Contents (Elt F) → (⟨S256, .f32⟩ : BufTy).Contents (Elt F) :=
  (fun a b => concatenate S256 0 [⟨S128, a⟩, ⟨S128, b⟩] concatenates_S128_S128_S256_d0)

/-- The function of the operation that writes `main_v59`: the two operands laid end to end. -/
def fn_main_v59 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The table as rows, and where the first row starts. -/
abbrev rowsA : List (HloOp τ sig (Elt F)) :=
  [ reshape main_arg3 main_v0 (rfl : (.f32 : EltTy) = .f32) shapeCasts_S1x200000x128_S200000x128,
    reshape main_arg1 main_v1 (rfl : (.i32 : EltTy) = .i32) shapeCasts_S1_S_,
    nullary main_c (constantI S_ 32 0#32),
    binary main_v1 main_c main_v2 (cmpi .slt : (⟨S_, .i32⟩ : BufTy).Contents (Elt F) → (⟨S_, .i32⟩ : BufTy).Contents (Elt F) → (⟨S_, .i1⟩ : BufTy).Contents (Elt F)),
    nullary main_c_0 (constantI S_ 32 200000#32),
    binary main_v1 main_c_0 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v5 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 128#32),
    binary main_c_3 main_c_4 main_v6 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The first row read out of the table. -/
abbrev rowsB : List (HloOp τ sig (Elt F)) :=
  [ unaryIndexed main_v0 ![main_v4, main_v7] ⟨S_, .i32⟩ main_v8 ((fun x i => Host.dynamicSlice S1x128 x (fun k => (i k (Shape.Idx.first h_S_)).toInt) sliceFits_S200000x128_S1x128) : (⟨S200000x128, .f32⟩ : BufTy).Contents (Elt F) → (Fin 2 → (⟨S_, .i32⟩ : BufTy).Contents (Elt F)) → (⟨S1x128, .f32⟩ : BufTy).Contents (Elt F)),
    reshape main_v8 main_v9 (rfl : (.f32 : EltTy) = .f32) shapeCasts_S1x128_S128 ]

/-- Where the second row starts. -/
abbrev rowsC : List (HloOp τ sig (Elt F)) :=
  [ reshape main_arg2 main_v10 (rfl : (.i32 : EltTy) = .i32) shapeCasts_S1_S_,
    nullary main_c_6 (constantI S_ 32 0#32),
    binary main_v10 main_c_6 main_v11 (cmpi .slt : (⟨S_, .i32⟩ : BufTy).Contents (Elt F) → (⟨S_, .i32⟩ : BufTy).Contents (Elt F) → (⟨S_, .i1⟩ : BufTy).Contents (Elt F)),
    nullary main_c_7 (constantI S_ 32 200000#32),
    binary main_v10 main_c_7 main_v12 (addi : (⟨S_, .i32⟩ : BufTy).Contents (Elt F) → (⟨S_, .i32⟩ : BufTy).Contents (Elt F) → (⟨S_, .i32⟩ : BufTy).Contents (Elt F)),
    ternary main_v11 main_v12 main_v10 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    nullary main_c_9 (constantI S_ 32 0#32),
    binary main_c_8 main_c_9 main_v14 (cmpi .slt : (⟨S_, .i32⟩ : BufTy).Contents (Elt F) → (⟨S_, .i32⟩ : BufTy).Contents (Elt F) → (⟨S_, .i1⟩ : BufTy).Contents (Elt F)),
    nullary main_c_10 (constantI S_ 32 0#32),
    nullary main_c_11 (constantI S_ 32 128#32),
    binary main_c_10 main_c_11 main_v15 (addi : (⟨S_, .i32⟩ : BufTy).Contents (Elt F) → (⟨S_, .i32⟩ : BufTy).Contents (Elt F) → (⟨S_, .i32⟩ : BufTy).Contents (Elt F)),
    nullary main_c_12 (constantI S_ 32 0#32),
    ternary main_v14 main_v15 main_c_12 main_v16 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The second row read out of the table. -/
abbrev rowsD : List (HloOp τ sig (Elt F)) :=
  [ unaryIndexed main_v0 ![main_v13, main_v16] ⟨S_, .i32⟩ main_v17 ((fun x i => Host.dynamicSlice S1x128 x (fun k => (i k (Shape.Idx.first h_S_)).toInt) sliceFits_S200000x128_S1x128) : (⟨S200000x128, .f32⟩ : BufTy).Contents (Elt F) → (Fin 2 → (⟨S_, .i32⟩ : BufTy).Contents (Elt F)) → (⟨S1x128, .f32⟩ : BufTy).Contents (Elt F)),
    reshape main_v17 main_v18 (rfl : (.f32 : EltTy) = .f32) shapeCasts_S1x128_S128 ]

/-- The two rows laid end to end, and the input as a column. -/
abbrev rowsE : List (HloOp τ sig (Elt F)) :=
  [ binary main_v9 main_v18 main_v19 (fn_main_v19 (F := F)),
    reshape main_v19 main_v20 (rfl : (.f32 : EltTy) = .f32) shapeCasts_S256_S256x1,
    reshape main_arg0 main_v21 (rfl : (.f32 : EltTy) = .f32) shapeCasts_S64_S64x1 ]

/-- The first gate. -/
abbrev keepOps : List (HloOp τ sig (Elt F)) :=
  [ binary main_arg4 main_v21 main_v22 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    binary main_arg7 main_v20 main_v23 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F)),
    binary main_v22 main_v23 main_v24 (addf : (⟨S256x1, .f32⟩ : BufTy).Contents (Elt F) → (⟨S256x1, .f32⟩ : BufTy).Contents (Elt F) → (⟨S256x1, .f32⟩ : BufTy).Contents (Elt F)),
    binary main_v24 main_arg10 main_v25 (addf : (⟨S256x1, .f32⟩ : BufTy).Contents (Elt F) → (⟨S256x1, .f32⟩ : BufTy).Contents (Elt F) → (⟨S256x1, .f32⟩ : BufTy).Contents (Elt F)),
    unary main_v25 main_v26 (Host.negf : (⟨S256x1, .f32⟩ : BufTy).Contents (Elt F) → (⟨S256x1, .f32⟩ : BufTy).Contents (Elt F)),
    unary main_v26 main_v27 (Host.exp : (⟨S256x1, .f32⟩ : BufTy).Contents (Elt F) → (⟨S256x1, .f32⟩ : BufTy).Contents (Elt F)),
    nullary main_cst (constant S_ .f32 0x3F800000#32),
    unary main_cst main_v28 (broadcastInDim S256x1 ![] bcast_S_S256x1 : (⟨S_, .f32⟩ : BufTy).Contents (Elt F) → (⟨S256x1, .f32⟩ : BufTy).Contents (Elt F)),
    binary main_v28 main_v27 main_v29 (addf : (⟨S256x1, .f32⟩ : BufTy).Contents (Elt F) → (⟨S256x1, .f32⟩ : BufTy).Contents (Elt F) → (⟨S256x1, .f32⟩ : BufTy).Contents (Elt F)),
    nullary main_cst_13 (constant S_ .f32 0x3F800000#32),
    unary main_cst_13 main_v30 (broadcastInDim S256x1 ![] bcast_S_S256x1 : (⟨S_, .f32⟩ : BufTy).Contents (Elt F) → (⟨S256x1, .f32⟩ : BufTy).Contents (Elt F)),
    binary main_v30 main_v29 main_v31 (Host.divf : (⟨S256x1, .f32⟩ : BufTy).Contents (Elt F) → (⟨S256x1, .f32⟩ : BufTy).Contents (Elt F) → (⟨S256x1, .f32⟩ : BufTy).Contents (Elt F)) ]

/-- The second gate. -/
abbrev resetOps : List (HloOp τ sig (Elt F)) :=
  [ binary main_arg5 main_v21 main_v32 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    binary main_arg8 main_v20 main_v33 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F)),
    binary main_v32 main_v33 main_v34 (addf : (⟨S256x1, .f32⟩ : BufTy).Contents (Elt F) → (⟨S256x1, .f32⟩ : BufTy).Contents (Elt F) → (⟨S256x1, .f32⟩ : BufTy).Contents (Elt F)),
    binary main_v34 main_arg11 main_v35 (subf : (⟨S256x1, .f32⟩ : BufTy).Contents (Elt F) → (⟨S256x1, .f32⟩ : BufTy).Contents (Elt F) → (⟨S256x1, .f32⟩ : BufTy).Contents (Elt F)),
    unary main_v35 main_v36 (Host.negf : (⟨S256x1, .f32⟩ : BufTy).Contents (Elt F) → (⟨S256x1, .f32⟩ : BufTy).Contents (Elt F)),
    unary main_v36 main_v37 (Host.exp : (⟨S256x1, .f32⟩ : BufTy).Contents (Elt F) → (⟨S256x1, .f32⟩ : BufTy).Contents (Elt F)),
    nullary main_cst_14 (constant S_ .f32 0x3F800000#32),
    unary main_cst_14 main_v38 (broadcastInDim S256x1 ![] bcast_S_S256x1 : (⟨S_, .f32⟩ : BufTy).Contents (Elt F) → (⟨S256x1, .f32⟩ : BufTy).Contents (Elt F)),
    binary main_v38 main_v37 main_v39 (addf : (⟨S256x1, .f32⟩ : BufTy).Contents (Elt F) → (⟨S256x1, .f32⟩ : BufTy).Contents (Elt F) → (⟨S256x1, .f32⟩ : BufTy).Contents (Elt F)),
    nullary main_cst_15 (constant S_ .f32 0x3F800000#32),
    unary main_cst_15 main_v40 (broadcastInDim S256x1 ![] bcast_S_S256x1 : (⟨S_, .f32⟩ : BufTy).Contents (Elt F) → (⟨S256x1, .f32⟩ : BufTy).Contents (Elt F)),
    binary main_v40 main_v39 main_v41 (Host.divf : (⟨S256x1, .f32⟩ : BufTy).Contents (Elt F) → (⟨S256x1, .f32⟩ : BufTy).Contents (Elt F) → (⟨S256x1, .f32⟩ : BufTy).Contents (Elt F)) ]

/-- The candidate and the change of the joined state. -/
abbrev changeOps : List (HloOp τ sig (Elt F)) :=
  [ binary main_arg6 main_v21 main_v42 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    binary main_v41 main_v20 main_v43 (mulf : (⟨S256x1, .f32⟩ : BufTy).Contents (Elt F) → (⟨S256x1, .f32⟩ : BufTy).Contents (Elt F) → (⟨S256x1, .f32⟩ : BufTy).Contents (Elt F)),
    binary main_arg9 main_v43 main_v44 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F)),
    binary main_v42 main_v44 main_v45 (addf : (⟨S256x1, .f32⟩ : BufTy).Contents (Elt F) → (⟨S256x1, .f32⟩ : BufTy).Contents (Elt F) → (⟨S256x1, .f32⟩ : BufTy).Contents (Elt F)),
    binary main_v45 main_arg12 main_v46 (addf : (⟨S256x1, .f32⟩ : BufTy).Contents (Elt F) → (⟨S256x1, .f32⟩ : BufTy).Contents (Elt F) → (⟨S256x1, .f32⟩ : BufTy).Contents (Elt F)),
    unary main_v46 main_v47 (Host.tanh : (⟨S256x1, .f32⟩ : BufTy).Contents (Elt F) → (⟨S256x1, .f32⟩ : BufTy).Contents (Elt F)),
    binary main_v31 main_v20 main_v48 (mulf : (⟨S256x1, .f32⟩ : BufTy).Contents (Elt F) → (⟨S256x1, .f32⟩ : BufTy).Contents (Elt F) → (⟨S256x1, .f32⟩ : BufTy).Contents (Elt F)),
    nullary main_cst_16 (constant S_ .f32 0x3F800000#32),
    unary main_cst_16 main_v49 (broadcastInDim S256x1 ![] bcast_S_S256x1 : (⟨S_, .f32⟩ : BufTy).Contents (Elt F) → (⟨S256x1, .f32⟩ : BufTy).Contents (Elt F)),
    binary main_v49 main_v31 main_v50 (subf : (⟨S256x1, .f32⟩ : BufTy).Contents (Elt F) → (⟨S256x1, .f32⟩ : BufTy).Contents (Elt F) → (⟨S256x1, .f32⟩ : BufTy).Contents (Elt F)),
    binary main_v50 main_v47 main_v51 (mulf : (⟨S256x1, .f32⟩ : BufTy).Contents (Elt F) → (⟨S256x1, .f32⟩ : BufTy).Contents (Elt F) → (⟨S256x1, .f32⟩ : BufTy).Contents (Elt F)),
    binary main_v48 main_v51 main_v52 (addf : (⟨S256x1, .f32⟩ : BufTy).Contents (Elt F) → (⟨S256x1, .f32⟩ : BufTy).Contents (Elt F) → (⟨S256x1, .f32⟩ : BufTy).Contents (Elt F)),
    binary main_v52 main_v20 main_v53 (subf : (⟨S256x1, .f32⟩ : BufTy).Contents (Elt F) → (⟨S256x1, .f32⟩ : BufTy).Contents (Elt F) → (⟨S256x1, .f32⟩ : BufTy).Contents (Elt F)) ]

/-- The change added back to the two rows. -/
abbrev addOps : List (HloOp τ sig (Elt F)) :=
  [ reshape main_v53 main_v54 (rfl : (.f32 : EltTy) = .f32) shapeCasts_S256x1_S2x128,
    reshape main_arg1 main_v55 (rfl : (.i32 : EltTy) = .i32) shapeCasts_S1_S_,
    reshape main_arg2 main_v56 (rfl : (.i32 : EltTy) = .i32) shapeCasts_S1_S_,
    unary main_v55 main_v57 (broadcastInDim S1 ![] bcast_S_S1 : (⟨S_, .i32⟩ : BufTy).Contents (Elt F) → (⟨S1, .i32⟩ : BufTy).Contents (Elt F)),
    unary main_v56 main_v58 (broadcastInDim S1 ![] bcast_S_S1 : (⟨S_, .i32⟩ : BufTy).Contents (Elt F) → (⟨S1, .i32⟩ : BufTy).Contents (Elt F)),
    binary main_v57 main_v58 main_v59 (fn_main_v59 (F := F)),
    nullary main_cst_17 (constant S_ .f32 0x00000000#32),
    unary main_cst_17 main_v60 (broadcastInDim S200000x128 ![] bcast_S_S200000x128 : (⟨S_, .f32⟩ : BufTy).Contents (Elt F) → (⟨S200000x128, .f32⟩ : BufTy).Contents (Elt F)),
    nullary main_c_18 (constantI S_ 32 0#32),
    unary main_c_18 main_v61 (broadcastInDim S2 ![] bcast_S_S2 : (⟨S_, .i32⟩ : BufTy).Contents (Elt F) → (⟨S2, .i32⟩ : BufTy).Contents (Elt F)),
    binary main_v59 main_v61 main_v62 (cmpi .slt : (⟨S2, .i32⟩ : BufTy).Contents (Elt F) → (⟨S2, .i32⟩ : BufTy).Contents (Elt F) → (⟨S2, .i1⟩ : BufTy).Contents (Elt F)),
    nullary main_c_19 (constantI S_ 32 200000#32),
    unary main_c_19 main_v63 (broadcastInDim S2 ![] bcast_S_S2 : (⟨S_, .i32⟩ : BufTy).Contents (Elt F) → (⟨S2, .i32⟩ : BufTy).Contents (Elt F)),
    binary main_v59 main_v63 main_v64 (addi : (⟨S2, .i32⟩ : BufTy).Contents (Elt F) → (⟨S2, .i32⟩ : BufTy).Contents (Elt F) → (⟨S2, .i32⟩ : BufTy).Contents (Elt F)),
    ternary main_v62 main_v64 main_v59 main_v65 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v65 main_v66 (broadcastInDim S2x1 ![0] bcast_S2_S2x1_0 : (⟨S2, .i32⟩ : BufTy).Contents (Elt F) → (⟨S2x1, .i32⟩ : BufTy).Contents (Elt F)),
    ternary main_v60 main_v66 main_v54 main_v67 ((fun x i u => Host.scatterAdd scatter_S200000x128_S2x1_S2x128_1_0_0_1 x i u) : (⟨S200000x128, .f32⟩ : BufTy).Contents (Elt F) → (⟨S2x1, .i32⟩ : BufTy).Contents (Elt F) → (⟨S2x128, .f32⟩ : BufTy).Contents (Elt F) → (⟨S200000x128, .f32⟩ : BufTy).Contents (Elt F)),
    binary main_v0 main_v67 main_v68 (addf : (⟨S200000x128, .f32⟩ : BufTy).Contents (Elt F) → (⟨S200000x128, .f32⟩ : BufTy).Contents (Elt F) → (⟨S200000x128, .f32⟩ : BufTy).Contents (Elt F)),
    reshape main_v68 main_v69 (rfl : (.f32 : EltTy) = .f32) shapeCasts_S200000x128_S1x200000x128 ]

/-- The program's operations, in order. -/
abbrev ops : List (HloOp τ sig (Elt F)) :=
  rowsA ++ (rowsB ++ (rowsC ++ (rowsD ++ (rowsE ++ (keepOps ++ (resetOps ++ (changeOps ++ addOps)))))))

set_option maxHeartbeats 4000000 in
/-- The program runs its operations in order. -/
theorem main_eq (c : Dev nD) : main (F := F) c = seq ops := rfl

/-- The program allocates no buffer as it goes. -/
theorem scopedRefs_eq : (Finset.univ.filter fun b : Ref sig .tc => b.isScoped) = ∅ := by decide
/-- The program allocates no counter as it goes. -/
theorem scopedSems_eq : (Finset.univ.filter fun sm : SemLoc sig => sm.isScoped .tc) = ∅ := by decide
set_option maxRecDepth 8192 in
/-- Every operation touches only the device's own buffers. -/
theorem ops_sub : (ops : List (HloOp τ sig (Elt F))).Forall fun op => op.bufs ⊆ tcRefs τ sig :=
  ⟨reshape_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., binary_bufs_sub .., reshape_bufs_sub .., reshape_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., binary_bufs_sub .., nullary_bufs_sub .., unary_bufs_sub .., binary_bufs_sub .., binary_bufs_sub .., binary_bufs_sub .., binary_bufs_sub .., reshape_bufs_sub .., reshape_bufs_sub .., reshape_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub .., reshape_bufs_sub ..⟩

variable (V : Valuation τ sig (Elt F))
variable {x0 : (⟨S64, .f32⟩ : BufTy).Contents (Elt F)} {x1 x2 : (⟨S1, .i32⟩ : BufTy).Contents (Elt F)}
  {x3 : (⟨S1x200000x128, .f32⟩ : BufTy).Contents (Elt F)} {x4 x5 x6 : (⟨S256x64, .f32⟩ : BufTy).Contents (Elt F)}
  {x7 x8 x9 : (⟨S256x256, .f32⟩ : BufTy).Contents (Elt F)} {x10 x11 x12 : (⟨S256x1, .f32⟩ : BufTy).Contents (Elt F)}

/-- `rowsA` changes only the buffers it writes. -/
theorem rowsA_keeps {r : Ref sig .tc} (hr : r ∉ [main_v0, main_v1, main_c, main_v2, main_c_0, main_v3, main_v4, main_c_1, main_c_2, main_v5, main_c_3, main_c_4, main_v6, main_c_5, main_v7]) :
    after rowsA V (no_index (Proc.devRef .tc r)) = V (Proc.devRef .tc r) :=
  after_unwritten [main_v0, main_v1, main_c, main_v2, main_c_0, main_v3, main_v4, main_c_1, main_c_2, main_v5, main_c_3, main_c_4, main_v6, main_c_5, main_v7] rfl hr V

/-- `rowsB` changes only the buffers it writes. -/
theorem rowsB_keeps {r : Ref sig .tc} (hr : r ∉ [main_v8, main_v9]) :
    after rowsB V (no_index (Proc.devRef .tc r)) = V (Proc.devRef .tc r) :=
  after_unwritten [main_v8, main_v9] rfl hr V

/-- `rowsC` changes only the buffers it writes. -/
theorem rowsC_keeps {r : Ref sig .tc} (hr : r ∉ [main_v10, main_c_6, main_v11, main_c_7, main_v12, main_v13, main_c_8, main_c_9, main_v14, main_c_10, main_c_11, main_v15, main_c_12, main_v16]) :
    after rowsC V (no_index (Proc.devRef .tc r)) = V (Proc.devRef .tc r) :=
  after_unwritten [main_v10, main_c_6, main_v11, main_c_7, main_v12, main_v13, main_c_8, main_c_9, main_v14, main_c_10, main_c_11, main_v15, main_c_12, main_v16] rfl hr V

/-- `rowsD` changes only the buffers it writes. -/
theorem rowsD_keeps {r : Ref sig .tc} (hr : r ∉ [main_v17, main_v18]) :
    after rowsD V (no_index (Proc.devRef .tc r)) = V (Proc.devRef .tc r) :=
  after_unwritten [main_v17, main_v18] rfl hr V

/-- `rowsE` changes only the buffers it writes. -/
theorem rowsE_keeps {r : Ref sig .tc} (hr : r ∉ [main_v19, main_v20, main_v21]) :
    after rowsE V (no_index (Proc.devRef .tc r)) = V (Proc.devRef .tc r) :=
  after_unwritten [main_v19, main_v20, main_v21] rfl hr V

/-- `keepOps` changes only the buffers it writes. -/
theorem keepOps_keeps {r : Ref sig .tc} (hr : r ∉ [main_v22, main_v23, main_v24, main_v25, main_v26, main_v27, main_cst, main_v28, main_v29, main_cst_13, main_v30, main_v31]) :
    after keepOps V (no_index (Proc.devRef .tc r)) = V (Proc.devRef .tc r) :=
  after_unwritten [main_v22, main_v23, main_v24, main_v25, main_v26, main_v27, main_cst, main_v28, main_v29, main_cst_13, main_v30, main_v31] rfl hr V

/-- `resetOps` changes only the buffers it writes. -/
theorem resetOps_keeps {r : Ref sig .tc} (hr : r ∉ [main_v32, main_v33, main_v34, main_v35, main_v36, main_v37, main_cst_14, main_v38, main_v39, main_cst_15, main_v40, main_v41]) :
    after resetOps V (no_index (Proc.devRef .tc r)) = V (Proc.devRef .tc r) :=
  after_unwritten [main_v32, main_v33, main_v34, main_v35, main_v36, main_v37, main_cst_14, main_v38, main_v39, main_cst_15, main_v40, main_v41] rfl hr V

/-- `changeOps` changes only the buffers it writes. -/
theorem changeOps_keeps {r : Ref sig .tc} (hr : r ∉ [main_v42, main_v43, main_v44, main_v45, main_v46, main_v47, main_v48, main_cst_16, main_v49, main_v50, main_v51, main_v52, main_v53]) :
    after changeOps V (no_index (Proc.devRef .tc r)) = V (Proc.devRef .tc r) :=
  after_unwritten [main_v42, main_v43, main_v44, main_v45, main_v46, main_v47, main_v48, main_cst_16, main_v49, main_v50, main_v51, main_v52, main_v53] rfl hr V

/-- `addOps` changes only the buffers it writes. -/
theorem addOps_keeps {r : Ref sig .tc} (hr : r ∉ [main_v54, main_v55, main_v56, main_v57, main_v58, main_v59, main_cst_17, main_v60, main_c_18, main_v61, main_v62, main_c_19, main_v63, main_v64, main_v65, main_v66, main_v67, main_v68, main_v69]) :
    after addOps V (no_index (Proc.devRef .tc r)) = V (Proc.devRef .tc r) :=
  after_unwritten [main_v54, main_v55, main_v56, main_v57, main_v58, main_v59, main_cst_17, main_v60, main_c_18, main_v61, main_v62, main_c_19, main_v63, main_v64, main_v65, main_v66, main_v67, main_v68, main_v69] rfl hr V

/-- The table as rows. -/
theorem rowsA_v0 : after rowsA V (Proc.devRef .tc main_v0) = val_main_v0 (F := F) (V (Proc.devRef .tc main_arg3)) := by
  after_reads_simp
  rfl

/-- The word that names the first row. -/
theorem rowsA_v4 : after rowsA V (Proc.devRef .tc main_v4) = val_main_v4 (F := F) (V (Proc.devRef .tc main_arg1)) := by
  after_reads_simp
  rfl

/-- The first row starts at column zero. -/
theorem rowsA_v7 : after rowsA V (Proc.devRef .tc main_v7) = val_main_v7 (F := F) := by
  after_reads_simp
  rfl

/-- The first row is read at the row that its index word names. -/
theorem rowsB_v9 (h0 : V (Proc.devRef .tc main_v0) = val_main_v0 (F := F) x3) (hw : V (Proc.devRef .tc main_v4) = val_main_v4 (F := F) x1) (hc : V (Proc.devRef .tc main_v7) = val_main_v7 (F := F)) :
    after rowsB V (Proc.devRef .tc main_v9) = val_main_v9 (F := F) x1 x3 := by
  after_reads_simp
  rw [h0]
  refine congrArg (fun g => shapeCast S128 (Host.dynamicSlice S1x128 (val_main_v0 (F := F) x3) g sliceFits_S200000x128_S1x128) shapeCasts_S1x128_S128) (funext fun k => ?_)
  match k with
  | ⟨0, _⟩ => exact congrArg (fun g : (⟨S_, .i32⟩ : BufTy).Contents (Elt F) => (g (Shape.Idx.first h_S_)).toInt) hw
  | ⟨1, _⟩ => exact congrArg (fun g : (⟨S_, .i32⟩ : BufTy).Contents (Elt F) => (g (Shape.Idx.first h_S_)).toInt) hc

/-- The word that names the second row. -/
theorem rowsC_v13 : after rowsC V (Proc.devRef .tc main_v13) = val_main_v13 (F := F) (V (Proc.devRef .tc main_arg2)) := by
  after_reads_simp
  rfl

/-- The second row starts at column zero. -/
theorem rowsC_v16 : after rowsC V (Proc.devRef .tc main_v16) = val_main_v16 (F := F) := by
  after_reads_simp
  rfl

/-- The second row is read at the row that its index word names. -/
theorem rowsD_v18 (h0 : V (Proc.devRef .tc main_v0) = val_main_v0 (F := F) x3) (hw : V (Proc.devRef .tc main_v13) = val_main_v13 (F := F) x2) (hc : V (Proc.devRef .tc main_v16) = val_main_v16 (F := F)) :
    after rowsD V (Proc.devRef .tc main_v18) = val_main_v18 (F := F) x2 x3 := by
  after_reads_simp
  rw [h0]
  refine congrArg (fun g => shapeCast S128 (Host.dynamicSlice S1x128 (val_main_v0 (F := F) x3) g sliceFits_S200000x128_S1x128) shapeCasts_S1x128_S128) (funext fun k => ?_)
  match k with
  | ⟨0, _⟩ => exact congrArg (fun g : (⟨S_, .i32⟩ : BufTy).Contents (Elt F) => (g (Shape.Idx.first h_S_)).toInt) hw
  | ⟨1, _⟩ => exact congrArg (fun g : (⟨S_, .i32⟩ : BufTy).Contents (Elt F) => (g (Shape.Idx.first h_S_)).toInt) hc

/-- The joined state. -/
theorem rowsE_v20 (h9 : V (Proc.devRef .tc main_v9) = val_main_v9 (F := F) x1 x3) (h18 : V (Proc.devRef .tc main_v18) = val_main_v18 (F := F) x2 x3) : after rowsE V (Proc.devRef .tc main_v20) = val_main_v20 (F := F) x1 x2 x3 := by
  after_reads_simp
  rw [h9, h18]
  rfl

/-- The input as a column. -/
theorem rowsE_v21 : after rowsE V (Proc.devRef .tc main_v21) = val_main_v21 (F := F) (V (Proc.devRef .tc main_arg0)) := by
  after_reads_simp
  rfl

/-- The first gate. -/
theorem keepOps_v31 (h20 : V (Proc.devRef .tc main_v20) = val_main_v20 (F := F) x1 x2 x3) (h21 : V (Proc.devRef .tc main_v21) = val_main_v21 (F := F) x0)
    (h4 : V (Proc.devRef .tc main_arg4) = x4) (h7 : V (Proc.devRef .tc main_arg7) = x7) (h10 : V (Proc.devRef .tc main_arg10) = x10) :
    after keepOps V (Proc.devRef .tc main_v31) = val_main_v31 (F := F) x0 x1 x2 x3 x4 x7 x10 := by
  after_reads_simp
  rw [h20, h21, h4, h7, h10]
  rfl

/-- The second gate. -/
theorem resetOps_v41 (h20 : V (Proc.devRef .tc main_v20) = val_main_v20 (F := F) x1 x2 x3) (h21 : V (Proc.devRef .tc main_v21) = val_main_v21 (F := F) x0)
    (h5 : V (Proc.devRef .tc main_arg5) = x5) (h8 : V (Proc.devRef .tc main_arg8) = x8) (h11 : V (Proc.devRef .tc main_arg11) = x11) :
    after resetOps V (Proc.devRef .tc main_v41) = val_main_v41 (F := F) x0 x1 x2 x3 x5 x8 x11 := by
  after_reads_simp
  rw [h20, h21, h5, h8, h11]
  rfl

/-- The change of the joined state. -/
theorem changeOps_v53 (h20 : V (Proc.devRef .tc main_v20) = val_main_v20 (F := F) x1 x2 x3) (h21 : V (Proc.devRef .tc main_v21) = val_main_v21 (F := F) x0)
    (h31 : V (Proc.devRef .tc main_v31) = val_main_v31 (F := F) x0 x1 x2 x3 x4 x7 x10)
    (h41 : V (Proc.devRef .tc main_v41) = val_main_v41 (F := F) x0 x1 x2 x3 x5 x8 x11)
    (h6 : V (Proc.devRef .tc main_arg6) = x6) (h9 : V (Proc.devRef .tc main_arg9) = x9) (h12 : V (Proc.devRef .tc main_arg12) = x12) :
    after changeOps V (Proc.devRef .tc main_v53) = val_main_v53 (F := F) x0 x1 x2 x3 x4 x5 x6 x7 x8 x9 x10 x11 x12 := by
  after_reads_simp
  rw [h20, h21, h31, h41, h6, h9, h12]
  rfl

/-- The new table. -/
theorem addOps_v69 (h0 : V (Proc.devRef .tc main_v0) = val_main_v0 (F := F) x3)
    (h53 : V (Proc.devRef .tc main_v53) = val_main_v53 (F := F) x0 x1 x2 x3 x4 x5 x6 x7 x8 x9 x10 x11 x12)
    (h1 : V (Proc.devRef .tc main_arg1) = x1) (h2 : V (Proc.devRef .tc main_arg2) = x2) :
    after addOps V (Proc.devRef .tc main_v69) = val_main_v69 (F := F) x0 x1 x2 x3 x4 x5 x6 x7 x8 x9 x10 x11 x12 := by
  after_reads_simp
  rw [h0, h53, h1, h2]
  rfl

/-- What the whole line leaves in the output. -/
theorem ops_v69 : after ops V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have e0 := rowsA_v0 V
  have e9 := rowsB_v9 (after rowsA V) e0 (rowsA_v4 V) (rowsA_v7 V)
  have e13 := rowsC_v13 (after rowsB (after rowsA V))
  have e16 := rowsC_v16 (after rowsB (after rowsA V))
  simp (disch := decide) only [rowsA_keeps, rowsB_keeps, rowsC_keeps, rowsD_keeps, rowsE_keeps, keepOps_keeps, resetOps_keeps, changeOps_keeps, addOps_keeps] at e13
  have e18 := rowsD_v18 (after rowsC (after rowsB (after rowsA V))) (by simp (disch := decide) only [rowsA_keeps, rowsB_keeps, rowsC_keeps, rowsD_keeps, rowsE_keeps, keepOps_keeps, resetOps_keeps, changeOps_keeps, addOps_keeps]; exact e0) e13 e16
  have e20 := rowsE_v20 (after rowsD (after rowsC (after rowsB (after rowsA V)))) (by simp (disch := decide) only [rowsA_keeps, rowsB_keeps, rowsC_keeps, rowsD_keeps, rowsE_keeps, keepOps_keeps, resetOps_keeps, changeOps_keeps, addOps_keeps]; exact e9) e18
  have e21 := rowsE_v21 (after rowsD (after rowsC (after rowsB (after rowsA V))))
  simp (disch := decide) only [rowsA_keeps, rowsB_keeps, rowsC_keeps, rowsD_keeps, rowsE_keeps, keepOps_keeps, resetOps_keeps, changeOps_keeps, addOps_keeps] at e21
  have e31 := keepOps_v31 (after rowsE (after rowsD (after rowsC (after rowsB (after rowsA V))))) e20 e21 rfl rfl rfl
  have e41 := resetOps_v41 (after keepOps (after rowsE (after rowsD (after rowsC (after rowsB (after rowsA V))))))
    (by simp (disch := decide) only [keepOps_keeps]; exact e20) (by simp (disch := decide) only [keepOps_keeps]; exact e21) rfl rfl rfl
  have e53 := changeOps_v53 (after resetOps (after keepOps (after rowsE (after rowsD (after rowsC (after rowsB (after rowsA V)))))))
    (by simp (disch := decide) only [keepOps_keeps, resetOps_keeps]; exact e20) (by simp (disch := decide) only [keepOps_keeps, resetOps_keeps]; exact e21)
    (by simp (disch := decide) only [resetOps_keeps]; exact e31) e41 rfl rfl rfl
  have e69 := addOps_v69 (after changeOps (after resetOps (after keepOps (after rowsE (after rowsD (after rowsC (after rowsB (after rowsA V))))))))
    (by simp (disch := decide) only [rowsA_keeps, rowsB_keeps, rowsC_keeps, rowsD_keeps, rowsE_keeps, keepOps_keeps, resetOps_keeps, changeOps_keeps, addOps_keeps]; exact e0) e53 rfl rfl
  simp (disch := decide) only [rowsA_keeps, rowsB_keeps, rowsC_keeps, rowsD_keeps, rowsE_keeps, keepOps_keeps, resetOps_keeps, changeOps_keeps, addOps_keeps] at e69
  simp only [ops, after_append]
  exact e69

/-- A buffer that is an argument of the program. -/
abbrev argRefs : List (Ref sig .tc) :=
  [main_arg0, main_arg1, main_arg2, main_arg3, main_arg4, main_arg5, main_arg6, main_arg7, main_arg8, main_arg9, main_arg10, main_arg11, main_arg12]

/-- The whole line leaves the arguments as they are. -/
theorem ops_arg {r : Ref sig .tc} (hr : r ∈ argRefs) : after ops V (Proc.devRef .tc r) = V (Proc.devRef .tc r) := by
  have h : ∀ q ∈ argRefs, ∀ U : Valuation τ sig (Elt F), after ops U (Proc.devRef .tc q) = U (Proc.devRef .tc q) := by
    intro q hq U
    fin_cases hq <;> simp (disch := decide) only [ops, after_append, rowsA_keeps, rowsB_keeps, rowsC_keeps, rowsD_keeps, rowsE_keeps, keepOps_keeps, resetOps_keeps, changeOps_keeps, addOps_keeps]
  exact h r hr V

/-- What a run of the reference leaves: the output as a function of the arguments, the arguments as they were, and the
    counters at zero. -/
theorem run (m : (ℓ : Loc nD τ sig) → Buf (Elt F) ℓ) (ρ : Dev nD → PrngReg) :
    θ_run (defs (F := F)) (onTc (main (F := F))) ⟨m, fun _ => 0, ρ⟩ (fun r =>
      (∀ c : Dev nD, r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ ∀ q ∈ argRefs, r.2.mem ((c.tc : Thread nD τ).loc q) = m ((c.tc : Thread nD τ).loc q))
      ∧ r.2.sem = fun _ => 0) :=
  (θ_run defs _ _).mono (fun r h => ⟨fun c => ⟨(h c main_v69).trans (ops_v69 _), fun q hq => (h c q).trans (ops_arg _ hq)⟩,
      sem_eq_zero_of_no_sems rfl _⟩)
    (run_seq scopedRefs_eq scopedSems_eq defs main (fun _ => ops) main_eq (fun _ => ops_sub) m ρ)

end Cert.ReferenceIdeal.Gru

end
-- ==== Proof.ReferenceIdeal.Rows.lean ====
/- How the reference picks its two rows out of the table, and where it adds their changes back. -/
module

public import proofs.«01_k».proof.Proof.Words
public import proofs.«01_k».proof.Proof.Update
public import proofs.«01_k».proof.Proof.ReferenceIdeal.Read
public import Idealize.ShloMosaic.Lib.Pointwise
public import Idealize.ShloMosaic.Lib.Routing.OpsPair

@[expose] public section

set_option maxRecDepth 16384

noncomputable section

namespace Cert.ReferenceIdeal.Gru

open Idealize.ShloMosaic Cert.ReferenceIdeal Cert.ReferenceIdeal.Gen Cert.Gru

/-- A one-element array has one index. -/
theorem one_idx (i j : S1.Idx) : i = j := by
  funext a
  match a with
  | ⟨0, _⟩ => exact Fin.ext (by have := (i 0).isLt; have := (j 0).isLt; change (i 0).val < 1 at *; change (j 0).val < 1 at *; show (i 0).val = (j 0).val; omega)

/-- A row number read signed is itself. -/
theorem toInt_row {w : BitVec 32} {b : ℕ} (h : w.toNat = b) (hb : b < 200000) : w.toInt = (b : Int) := by
  rw [BitVec.toInt_eq_toNat_of_lt (by omega), h]

/-- A row number is not wrapped. -/
theorem wrap_row {w a : BitVec 32} (h : w.toNat < 200000) : Scalar.select (IntOp.cmpi .slt w 0#32) a w = w :=
  Routing.wrap_of_lt w a (by omega)

variable (x1 x2 : (⟨S1, .i32⟩ : BufTy).Contents (Elt Ideal)) (x3 : (⟨S1x200000x128, .f32⟩ : BufTy).Contents (Elt Ideal))
variable {b p : Fin 200000}

/-- The table of rows is the third argument's only plane. -/
theorem v0_at (r : Fin 200000) (c : Fin 128) : val_main_v0 (F := Ideal) x3 (ix2 r c) = x3 (ix3 0 r c) := by
  rw [val_main_v0_apply]
  refine congrArg x3 (funext fun a => Fin.ext ?_)
  have hr := r.isLt
  have hc := c.isLt
  match a with
  | ⟨0, _⟩ => rfl
  | ⟨1, _⟩ => show (r.val * 128 + c.val) / 128 % 200000 = r.val; omega
  | ⟨2, _⟩ => show (r.val * 128 + c.val) % 128 = c.val; omega

/-- One row sliced out of the table. -/
theorem slice_row (s0 s1 : (⟨S_, .i32⟩ : BufTy).Contents (Elt Ideal)) (h0 : (s0 (Shape.Idx.first h_S_)).toInt = (b.val : Int))
    (h1 : s1 (Shape.Idx.first h_S_) = 0#32) (c : Fin 128) :
    Host.dynamicSlice S1x128 (val_main_v0 (F := Ideal) x3) (fun k => (((![s0, s1] : Fin 2 → (⟨S_, .i32⟩ : BufTy).Contents (Elt Ideal))) k (Shape.Idx.first h_S_)).toInt)
      sliceFits_S200000x128_S1x128 (ix2 0 c) = x3 (ix3 0 b c) := by
  rw [← v0_at x3, Host.dynamicSlice_apply]
  refine congrArg (val_main_v0 (F := Ideal) x3) (funext fun a => Fin.ext ?_)
  have hb := b.isLt
  match a with
  | ⟨0, _⟩ =>
    show (min (max ((s0 (Shape.Idx.first h_S_)).toInt) 0) ((200000 - 1 : ℕ) : Int)).toNat + 0 = b.val
    rw [h0]; omega
  | ⟨1, _⟩ =>
    show (min (max ((s1 (Shape.Idx.first h_S_)).toInt) 0) ((128 - 128 : ℕ) : Int)).toNat + c.val = c.val
    rw [h1, BitVec.toInt_zero]; simp

/-- The first row. -/
theorem v8_at (hb : (x1 (ix1 0)).toNat = b.val) (c : Fin 128) : val_main_v8 (F := Ideal) x1 x3 (ix2 0 c) = x3 (ix3 0 b c) := by
  refine slice_row x3 _ _ ?_ rfl c
  have e : ∀ i, val_main_v1 (F := Ideal) x1 i = x1 (ix1 0) := fun i => congrArg x1 (one_idx _ _)
  rw [val_main_v4_apply, val_main_v2_apply, e]
  show (Scalar.select (IntOp.cmpi .slt _ 0#32) (_ : BitVec 32) (_ : BitVec 32)).toInt = _
  rw [wrap_row (by rw [hb]; exact b.isLt)]
  exact toInt_row hb b.isLt

/-- The second row. -/
theorem v17_at (hp : (x2 (ix1 0)).toNat = p.val) (c : Fin 128) : val_main_v17 (F := Ideal) x2 x3 (ix2 0 c) = x3 (ix3 0 p c) := by
  refine slice_row x3 _ _ ?_ rfl c
  have e : ∀ i, val_main_v10 (F := Ideal) x2 i = x2 (ix1 0) := fun i => congrArg x2 (one_idx _ _)
  rw [val_main_v13_apply, val_main_v11_apply, e]
  show (Scalar.select (IntOp.cmpi .slt _ 0#32) (_ : BitVec 32) (_ : BitVec 32)).toInt = _
  rw [wrap_row (by rw [hp]; exact p.isLt)]
  exact toInt_row hp p.isLt

/-- The state: the two rows side by side, as a column. -/
theorem v20_at (hb : (x1 (ix1 0)).toNat = b.val) (hp : (x2 (ix1 0)).toNat = p.val) (j : Fin 256) :
    val_main_v20 (F := Ideal) x1 x2 x3 (ix2 j 0) = pair (fun c => x3 (ix3 0 b c)) (fun c => x3 (ix3 0 p c)) j := by
  have e : idx_main_v20 (ix2 j 0) = (ix1 j : S256.Idx) := funext fun a => Fin.ext (match a with
    | ⟨0, _⟩ => by show j.val * 1 + 0 = j.val; omega)
  have e9 : ∀ c : Fin 128, val_main_v9 (F := Ideal) x1 x3 (ix1 c) = x3 (ix3 0 b c) := fun c => by
    rw [val_main_v9_apply, ← v8_at x1 x3 hb c]
    exact congrArg _ (funext fun a => Fin.ext (match a with
      | ⟨0, _⟩ => rfl
      | ⟨1, _⟩ => Nat.mod_eq_of_lt c.isLt))
  have e18 : ∀ c : Fin 128, val_main_v18 (F := Ideal) x2 x3 (ix1 c) = x3 (ix3 0 p c) := fun c => by
    rw [val_main_v18_apply, ← v17_at x2 x3 hp c]
    exact congrArg _ (funext fun a => Fin.ext (match a with
      | ⟨0, _⟩ => rfl
      | ⟨1, _⟩ => Nat.mod_eq_of_lt c.isLt))
  rw [val_main_v20_apply, e]
  unfold val_main_v19
  generalize val_main_v9 (F := Ideal) x1 x3 = u at e9
  generalize val_main_v18 (F := Ideal) x2 x3 = v at e18
  pointwise
  unfold pair
  split
  · exact e9 _
  · exact e18 _

/-- The rows to which the changes are added. -/
theorem v66_at (hb : (x1 (ix1 0)).toNat = b.val) (hp : (x2 (ix1 0)).toNat = p.val) (k : Fin 2) :
    (val_main_v66 (F := Ideal) x1 x2 (ix2 k 0)).toInt = ((if k = 0 then b else p).val : Int) := by
  have e57 : ∀ i, val_main_v57 (F := Ideal) x1 i = x1 (ix1 0) := fun i => congrArg x1 (one_idx _ _)
  have e58 : ∀ i, val_main_v58 (F := Ideal) x2 i = x2 (ix1 0) := fun i => congrArg x2 (one_idx _ _)
  have e : (val_main_v59 (F := Ideal) x1 x2 (ix1 k)).toNat = (if k = 0 then b else p).val := by
    unfold val_main_v59
    generalize val_main_v57 (F := Ideal) x1 = u at e57
    generalize val_main_v58 (F := Ideal) x2 = v at e58
    pointwise
    have hk := k.isLt
    by_cases h : k.val < 1
    · have hk0 : k = 0 := Fin.ext (by show k.val = 0; omega)
      rw [dif_pos h, if_pos hk0, e57, hb]
    · have hk0 : k ≠ 0 := fun h' => h (by rw [h']; decide)
      rw [dif_neg h, if_neg hk0, e58, hp]
  have e66 : idx_main_v66 (ix2 k 0) = (ix1 k : S2.Idx) := funext fun a => Fin.ext (match a with
    | ⟨0, _⟩ => rfl)
  rw [val_main_v66_apply, e66, val_main_v65_apply, val_main_v62_apply]
  show (Scalar.select (IntOp.cmpi .slt _ 0#32) (_ : BitVec 32) (_ : BitVec 32)).toInt = _
  rw [wrap_row (by rw [e]; exact Fin.isLt _)]
  exact toInt_row e (Fin.isLt _)

/-- An update lands on the row that its index word names, in its own column. -/
theorem lands (idx : IVec S2x1 32) (k : Fin 2) (c' : Fin 128) (r : Fin 200000) (c : Fin 128) :
    scatter_S200000x128_S2x1_S2x128_1_0_0_1.resultIdx? (ix2 k c') idx = some (ix2 r c)
      ↔ (idx (ix2 k 0)).toInt = (r.val : Int) ∧ c' = c := by
  have hs : scatter_S200000x128_S2x1_S2x128_1_0_0_1.start (ix2 k c') idx 0 = (idx (ix2 k 0)).toInt := by
    unfold ScatterDims.start
    rw [dif_pos (show (0 : Fin 2) ∈ scatter_S200000x128_S2x1_S2x128_1_0_0_1.scatterDimsToOperandDims from List.mem_singleton.2 rfl)]
    refine congrArg (fun i => (idx i).toInt) (funext fun a => Fin.ext ?_)
    match a with
    | ⟨0, _⟩ => rfl
    | ⟨1, _⟩ => rfl
  have hs1 : scatter_S200000x128_S2x1_S2x128_1_0_0_1.start (ix2 k c') idx 1 = 0 := by
    unfold ScatterDims.start
    rw [dif_neg (show ¬ (1 : Fin 2) ∈ scatter_S200000x128_S2x1_S2x128_1_0_0_1.scatterDimsToOperandDims from fun h => absurd (List.mem_singleton.1 h) (by decide))]
  have hw : scatter_S200000x128_S2x1_S2x128_1_0_0_1.window (ix2 k c') 0 = 0 := rfl
  have hw1 : scatter_S200000x128_S2x1_S2x128_1_0_0_1.window (ix2 k c') 1 = c'.val := rfl
  refine (Routing.resultIdx?_ix2 scatter_S200000x128_S2x1_S2x128_1_0_0_1 (ix2 k c') idx r c).trans ?_
  rw [hs, hs1, hw, hw1, Fin.ext_iff]
  constructor
  · rintro ⟨h1, h2⟩; exact ⟨by omega, by omega⟩
  · rintro ⟨h1, h2⟩; exact ⟨by omega, by omega⟩

/-- The sum of the updates that land on an entry: the first row's if it is the row, and the second's if it is the row. -/
theorem scatter_at (u : FVec Ideal S2x128 .f32) (hb : (x1 (ix1 0)).toNat = b.val)
    (hp : (x2 (ix1 0)).toNat = p.val) (r : Fin 200000) (c : Fin 128) :
    Host.scatterAdd (F := Ideal) scatter_S200000x128_S2x1_S2x128_1_0_0_1 (val_main_v60 (F := Ideal)) (val_main_v66 (F := Ideal) x1 x2) u (ix2 r c)
      = (if r.val = b.val then u (ix2 0 c) else 0) + if r.val = p.val then u (ix2 1 c) else 0 := by
  show val_main_v60 (F := Ideal) (ix2 r c) + ∑ j ∈ Finset.univ.filter (fun j =>
    scatter_S200000x128_S2x1_S2x128_1_0_0_1.resultIdx? j (val_main_v66 (F := Ideal) x1 x2) = some (ix2 r c)), u j = _
  have e0 : val_main_v60 (F := Ideal) (ix2 r c) = 0 := Ideal.ofBits_zero_f32
  have hk := fun k => v66_at x1 x2 hb hp k
  rw [e0, zero_add, Finset.sum_filter]
  refine (sum_idx2 (n0 := 2) (n1 := 128) _).trans ?_
  simp only [lands, hk]
  rw [Fin.sum_univ_two]
  have one : ∀ (k : Fin 2) (q : Fin 200000), (∑ x : Fin 128, if ((q.val : Int) = (r.val : Int)) ∧ x = c then u (ix2 k x) else 0)
      = if r.val = q.val then u (ix2 k c) else 0 := fun k q => by
    by_cases h : r.val = q.val
    · rw [if_pos h]
      simp [h]
    · rw [if_neg h]
      have h' : ¬ ((q.val : Int) = (r.val : Int)) := by omega
      simp [h']
  rw [← one 0 b, ← one 1 p]
  rfl

end Cert.ReferenceIdeal.Gru

end
-- ==== Proof.ReferenceIdeal.Value.lean ====
/- The reference's output at an entry: the table's entry with the change of the two rows added. -/
module

public import proofs.«01_k».proof.Proof.ReferenceIdeal.Rows

@[expose] public section

set_option maxRecDepth 16384

noncomputable section

namespace Cert.ReferenceIdeal.Gru

open Idealize.ShloMosaic Cert.ReferenceIdeal Cert.ReferenceIdeal.Gen Cert.Gru

variable (x0 : (⟨S64, .f32⟩ : BufTy).Contents (Elt Ideal)) (x1 x2 : (⟨S1, .i32⟩ : BufTy).Contents (Elt Ideal))
  (x3 : (⟨S1x200000x128, .f32⟩ : BufTy).Contents (Elt Ideal)) (x4 x5 x6 : (⟨S256x64, .f32⟩ : BufTy).Contents (Elt Ideal))
  (x7 x8 x9 : (⟨S256x256, .f32⟩ : BufTy).Contents (Elt Ideal)) (x10 x11 x12 : (⟨S256x1, .f32⟩ : BufTy).Contents (Elt Ideal))

/-- The input as a column. -/
theorem v21_at (k : Fin 64) : val_main_v21 (F := Ideal) x0 (ix2 k 0) = x0 (ix1 k) := by
  rw [val_main_v21_apply]
  refine congrArg x0 (funext fun a => Fin.ext ?_)
  match a with
  | ⟨0, _⟩ => show k.val * 1 + 0 = k.val; omega

/-- The state column, at a row. -/
abbrev st (j : Fin 256) : EReal := val_main_v20 (F := Ideal) x1 x2 x3 (ix2 j 0)

/-- The weighted sums of the update gate. -/
theorem v24_at (j : Fin 256) : val_main_v24 (F := Ideal) x0 x1 x2 x3 x4 x7 (ix2 j 0)
    = lin (fun j k => x4 (ix2 j k)) (fun j k => x7 (ix2 j k)) (fun k => x0 (ix1 k)) (st x1 x2 x3) j := by
  rw [val_main_v24_apply, val_main_v22_apply, val_main_v23_apply]
  refine congrArg₂ (· + ·) (Finset.sum_congr rfl fun k _ => ?_) (Finset.sum_congr rfl fun k _ => ?_)
  · exact congrArg₂ (· * ·) (congrArg _ (eq_ix2 _)) ((congrArg _ (eq_ix2 _)).trans (v21_at x0 k))
  · exact congrArg₂ (· * ·) (congrArg _ (eq_ix2 _)) (congrArg _ (eq_ix2 _))

/-- The weighted sums of the reset gate. -/
theorem v34_at (j : Fin 256) : val_main_v34 (F := Ideal) x0 x1 x2 x3 x5 x8 (ix2 j 0)
    = lin (fun j k => x5 (ix2 j k)) (fun j k => x8 (ix2 j k)) (fun k => x0 (ix1 k)) (st x1 x2 x3) j := by
  rw [val_main_v34_apply, val_main_v32_apply, val_main_v33_apply]
  refine congrArg₂ (· + ·) (Finset.sum_congr rfl fun k _ => ?_) (Finset.sum_congr rfl fun k _ => ?_)
  · exact congrArg₂ (· * ·) (congrArg _ (eq_ix2 _)) ((congrArg _ (eq_ix2 _)).trans (v21_at x0 k))
  · exact congrArg₂ (· * ·) (congrArg _ (eq_ix2 _)) (congrArg _ (eq_ix2 _))

/-- The update gate. -/
theorem v31_at (j : Fin 256) : val_main_v31 (F := Ideal) x0 x1 x2 x3 x4 x7 x10 (ix2 j 0)
    = keep (fun j k => x4 (ix2 j k)) (fun j k => x7 (ix2 j k)) (fun j => x10 (ix2 j 0)) (fun k => x0 (ix1 k)) (st x1 x2 x3) j := by
  rw [val_main_v31_apply, val_main_v29_apply, val_main_v27_apply, val_main_v26_apply, val_main_v25_apply, v24_at]
  show Ideal.div (Ideal.ofBits .f32 0x3F800000#32) (Ideal.ofBits .f32 0x3F800000#32 + _) = _
  rw [Ideal.ofBits_one_f32]
  rfl

/-- The reset gate. -/
theorem v41_at (j : Fin 256) : val_main_v41 (F := Ideal) x0 x1 x2 x3 x5 x8 x11 (ix2 j 0)
    = reset (fun j k => x5 (ix2 j k)) (fun j k => x8 (ix2 j k)) (fun j => x11 (ix2 j 0)) (fun k => x0 (ix1 k)) (st x1 x2 x3) j := by
  rw [val_main_v41_apply, val_main_v39_apply, val_main_v37_apply, val_main_v36_apply, val_main_v35_apply, v34_at]
  show Ideal.div (Ideal.ofBits .f32 0x3F800000#32) (Ideal.ofBits .f32 0x3F800000#32 + _) = _
  rw [Ideal.ofBits_one_f32]
  rfl

/-- The candidate. -/
theorem v47_at (j : Fin 256) : val_main_v47 (F := Ideal) x0 x1 x2 x3 x5 x6 x8 x9 x11 x12 (ix2 j 0)
    = cand (fun j k => x6 (ix2 j k)) (fun j k => x9 (ix2 j k)) (fun j => x12 (ix2 j 0)) (fun k => x0 (ix1 k)) (st x1 x2 x3)
        (reset (fun j k => x5 (ix2 j k)) (fun j k => x8 (ix2 j k)) (fun j => x11 (ix2 j 0)) (fun k => x0 (ix1 k)) (st x1 x2 x3)) j := by
  rw [val_main_v47_apply, val_main_v46_apply, val_main_v45_apply, val_main_v42_apply, val_main_v44_apply]
  refine congrArg (fun a => Ideal.tanh (a + x12 (ix2 j 0))) (congrArg₂ (· + ·) (Finset.sum_congr rfl fun k _ => ?_) (Finset.sum_congr rfl fun k _ => ?_))
  · exact congrArg₂ (· * ·) (congrArg _ (eq_ix2 _)) ((congrArg _ (eq_ix2 _)).trans (v21_at x0 k))
  · refine congrArg₂ (· * ·) (congrArg _ (eq_ix2 _)) ((congrArg _ (eq_ix2 _)).trans ?_)
    show val_main_v43 (F := Ideal) x0 x1 x2 x3 x5 x8 x11 (ix2 k 0) = _
    rw [val_main_v43_apply, v41_at]
    rfl

/-- The change of the state. -/
theorem v53_at (j : Fin 256) : val_main_v53 (F := Ideal) x0 x1 x2 x3 x4 x5 x6 x7 x8 x9 x10 x11 x12 (ix2 j 0)
    = change (fun j k => x4 (ix2 j k)) (fun j k => x5 (ix2 j k)) (fun j k => x6 (ix2 j k)) (fun j k => x7 (ix2 j k)) (fun j k => x8 (ix2 j k))
        (fun j k => x9 (ix2 j k)) (fun j => x10 (ix2 j 0)) (fun j => x11 (ix2 j 0)) (fun j => x12 (ix2 j 0)) (fun k => x0 (ix1 k)) (st x1 x2 x3) j := by
  rw [val_main_v53_apply, val_main_v52_apply, val_main_v51_apply, val_main_v50_apply, val_main_v48_apply, v47_at, v31_at]
  show (_ * _ + (Ideal.ofBits .f32 0x3F800000#32 - _) * _) - _ = _
  rw [Ideal.ofBits_one_f32]
  rfl

/-- The output at an entry, in terms of the rows that the two index arguments name. -/
theorem v69_at {b p : Fin 200000} (hb : (x1 (ix1 0)).toNat = b.val) (hp : (x2 (ix1 0)).toNat = p.val) (r : Fin 200000) (c : Fin 128) :
    val_main_v69 (F := Ideal) x0 x1 x2 x3 x4 x5 x6 x7 x8 x9 x10 x11 x12 (ix3 0 r c)
      = entry b.val p.val r.val (x3 (ix3 0 r c))
          (change (fun j k => x4 (ix2 j k)) (fun j k => x5 (ix2 j k)) (fun j k => x6 (ix2 j k)) (fun j k => x7 (ix2 j k)) (fun j k => x8 (ix2 j k))
            (fun j k => x9 (ix2 j k)) (fun j => x10 (ix2 j 0)) (fun j => x11 (ix2 j 0)) (fun j => x12 (ix2 j 0)) (fun k => x0 (ix1 k))
            (pair (fun k => x3 (ix3 0 b k)) (fun k => x3 (ix3 0 p k)))) c := by
  have hs : st x1 x2 x3 = pair (fun k => x3 (ix3 0 b k)) (fun k => x3 (ix3 0 p k)) := funext fun j => v20_at x1 x2 x3 hb hp j
  have hr := r.isLt
  have hc := c.isLt
  have e : idx_main_v69 (ix3 0 r c) = ix2 r c := funext fun a => Fin.ext (match a with
    | ⟨0, _⟩ => by show ((0 * 200000 + r.val) * 128 + c.val) / 128 = r.val; omega
    | ⟨1, _⟩ => by show ((0 * 200000 + r.val) * 128 + c.val) % 128 = c.val; omega)
  have e0 : idx_main_v54 (ix2 0 c) = ix2 (lo c) 0 := funext fun a => Fin.ext (match a with
    | ⟨0, _⟩ => by show (0 * 128 + c.val) / 1 = c.val; omega
    | ⟨1, _⟩ => rfl)
  have e1 : idx_main_v54 (ix2 1 c) = ix2 (hi c) 0 := funext fun a => Fin.ext (match a with
    | ⟨0, _⟩ => by show (1 * 128 + c.val) / 1 = 128 + c.val; omega
    | ⟨1, _⟩ => rfl)
  rw [val_main_v69_apply, e, val_main_v68_apply, v0_at]
  unfold val_main_v67
  rw [scatter_at x1 x2 _ hb hp r c, val_main_v54_apply, val_main_v54_apply, e0, e1, v53_at, v53_at, hs]
  exact (add_assoc _ _ _).symm

end Cert.ReferenceIdeal.Gru

end
-- ==== Proof.lean ====
/- The proof of the claim: the three programs run with their arguments kept and their counters ending at zero, and the
   kernel's output over the extended reals is the reference's. -/
module

public import proofs.«01_k».proof.Defs
public import proofs.«01_k».proof.Proof.Range
public import proofs.«01_k».proof.Proof.Kernel.Frame
public import proofs.«01_k».proof.Proof.Kernel.Table
public import proofs.«01_k».proof.Proof.KernelIdeal.Frame
public import proofs.«01_k».proof.Proof.KernelIdeal.Table
public import proofs.«01_k».proof.Proof.KernelIdeal.Value
public import proofs.«01_k».proof.Proof.ReferenceIdeal.Parts
public import proofs.«01_k».proof.Proof.ReferenceIdeal.Value

@[expose] public section

noncomputable section

namespace Cert.Proof

open Idealize.ShloMosaic Idealize.SL.Sem

/-- The precondition makes both index arguments of the compiled kernel rows of the table. -/
theorem rows_kernel {m : (ℓ : Loc Cert.Kernel.nD Cert.Kernel.τ Cert.Kernel.sig) → Buf (Elt Bits) ℓ}
    (h : Cert.Pre_Kernel m) : Cert.Kernel.Gru.Rows m :=
  Cert.Kernel.Gru.rows_of_range m (Cert.Gru.range_of_pre _ _ _ _ _ _ _ _ _ _ _ _ _ (h 0))

/-- The precondition makes both index arguments of the idealized kernel rows of the table. -/
theorem rows_kernelIdeal {m : (ℓ : Loc Cert.KernelIdeal.nD Cert.KernelIdeal.τ Cert.KernelIdeal.sig) → Buf (Elt Ideal) ℓ}
    (h : Cert.Pre_KernelIdeal m) : Cert.KernelIdeal.Gru.Rows m :=
  Cert.KernelIdeal.Gru.rows_of_range m (Cert.Gru.range_of_pre _ _ _ _ _ _ _ _ _ _ _ _ _ (h 0))

/-- The compiled kernel's frame. -/
theorem frame_kernel : Cert.quiescent_Kernel := fun m g h => Cert.Kernel.Gru.frame m g (rows_kernel h)

/-- The idealized kernel's frame. -/
theorem frame_kernelIdeal : Cert.quiescent_KernelIdeal := fun m g h => Cert.KernelIdeal.Gru.frame m g (rows_kernelIdeal h)

open Cert.ReferenceIdeal in
/-- The arguments of the reference end as they were. -/
theorem args_reference {m : (ℓ : Loc nD τ sig) → Buf (Elt Ideal) ℓ} {μ : (ℓ : Loc nD τ sig) → Buf (Elt Ideal) ℓ} {c : Dev nD}
    (h : ∀ q ∈ Cert.ReferenceIdeal.Gru.argRefs, μ ((c.tc : Thread nD τ).loc q) = m ((c.tc : Thread nD τ).loc q)) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)
    ∧ μ ((c.tc : Thread nD τ).loc main_arg10) = m ((c.tc : Thread nD τ).loc main_arg10)
    ∧ μ ((c.tc : Thread nD τ).loc main_arg11) = m ((c.tc : Thread nD τ).loc main_arg11)
    ∧ μ ((c.tc : Thread nD τ).loc main_arg12) = m ((c.tc : Thread nD τ).loc main_arg12) :=
  ⟨h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide)⟩

/-- The reference's frame. -/
theorem frame_reference : Cert.quiescent_ReferenceIdeal := fun m g _ =>
  (θ_run _ _ _).mono (fun _ h => ⟨fun c => args_reference (h.1 c).2, h.2⟩) (Cert.ReferenceIdeal.Gru.run m g)

/-- The reference's frame under the precondition. -/
theorem frame_reference_pre : Cert.quiescent_ReferenceIdeal_pre_rows_in_table := fun m g _ =>
  (θ_run _ _ _).mono (fun _ h => ⟨fun c => args_reference (h.1 c).2, h.2⟩) (Cert.ReferenceIdeal.Gru.run m g)

/-- The kernel's result and the reference's are equal, entry by entry. -/
theorem result_eq (m : (ℓ : Loc Cert.KernelIdeal.nD Cert.KernelIdeal.τ Cert.KernelIdeal.sig) → Buf (Elt Ideal) ℓ)
    (hR : Cert.KernelIdeal.Gru.Rows m) (c : Dev Cert.KernelIdeal.nD) :
    Cert.ReferenceIdeal.Gru.val_main_v69 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      = Cert.KernelIdeal.Gru.W m hR c Cert.KernelIdeal.main_v17 := by
  obtain rfl : c = 0 := Subsingleton.elim _ _
  have hb : Cert.KernelIdeal.Gru.rowB m = (⟨Cert.KernelIdeal.Gru.rowB m, hR.1⟩ : Fin 200000).val := rfl
  have hp : Cert.KernelIdeal.Gru.rowP m = (⟨Cert.KernelIdeal.Gru.rowP m, hR.2⟩ : Fin 200000).val := rfl
  funext i
  obtain ⟨r, k, rfl⟩ : ∃ (r : Fin 200000) (k : Fin 128), i = ix3 0 r k := ⟨i 1, i 2, funext fun a => match a with
    | ⟨0, _⟩ => Subsingleton.elim (α := Fin 1) _ _
    | ⟨1, _⟩ => rfl
    | ⟨2, _⟩ => rfl⟩
  rw [Cert.KernelIdeal.Gru.W_at m hR 0 hb hp r k]
  exact Cert.ReferenceIdeal.Gru.v69_at _ _ _ _ _ _ _ _ _ _ _ _ _
    (congrArg BitVec.toNat (Cert.KernelIdeal.Gru.word0_eq m)).symm (congrArg BitVec.toNat (Cert.KernelIdeal.Gru.word1_eq m)).symm r k

/-- From equal arguments the two programs end with equal results, and with their arguments as they were. -/
theorem results : Cert.algebraic_KernelIdeal_ReferenceIdeal := by
  intro m g m' g' hpre hargs
  have hR := rows_kernelIdeal hpre
  refine ⟨fun c => Cert.KernelIdeal.Gru.W m hR c Cert.KernelIdeal.main_v17, ?_, ?_⟩
  · exact (θ_run _ _ _).mono (fun _ h c => ⟨(h.1 c).2 Cert.KernelIdeal.main_v17
        (by decide : Cert.KernelIdeal.main_v17 ∈ Pipeline.restRefs Cert.KernelIdeal.sig Cert.KernelIdeal.spec0),
        Cert.KernelIdeal.Gru.args_kept m hR h.1 c⟩)
      (Cert.KernelIdeal.Gru.run_main m g hR)
  · refine (θ_run _ _ _).mono (fun _ h c => ⟨(h.1 c).1.trans ?_, args_reference (h.1 c).2⟩) (Cert.ReferenceIdeal.Gru.run m' g')
    obtain ⟨h0, h1, h2, h3, h4, h5, h6, h7, h8, h9, h10, h11, h12⟩ := hargs c
    rw [h0, h1, h2, h3, h4, h5, h6, h7, h8, h9, h10, h11, h12]
    exact result_eq m hR c

/-- The claim: the five parts together. -/
theorem claim : Cert.Claim :=
  ⟨Cert.Kernel.Gen.facts, Cert.KernelIdeal.Gen.facts, Cert.ReferenceIdeal.Gen.facts, Cert.Pre_rows_in_table.Gen.facts,
    frame_kernel, frame_kernelIdeal, frame_reference, frame_reference_pre, trivial, results⟩

end Cert.Proof

end
